-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "scale" .f32 0x2035C36D#32 ((1 / 6495211421775691776 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v348) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x128x128 : Shape := ⟨4, ![2, 128, 128, 128]⟩
abbrev S1x1 : Shape := ⟨2, ![1, 1]⟩
abbrev S_ : Shape := ⟨0, ![]⟩
abbrev S32x32768 : Shape := ⟨2, ![32, 32768]⟩
abbrev S16x32768 : Shape := ⟨2, ![16, 32768]⟩
abbrev S2x128x128 : Shape := ⟨3, ![2, 128, 128]⟩
abbrev S32x16 : Shape := ⟨2, ![32, 16]⟩
abbrev S2x1x128x128 : Shape := ⟨4, ![2, 1, 128, 128]⟩
abbrev S2x128x127 : Shape := ⟨3, ![2, 128, 127]⟩
abbrev S2x128x1 : Shape := ⟨3, ![2, 128, 1]⟩
abbrev S2x128x126 : Shape := ⟨3, ![2, 128, 126]⟩
abbrev S2x128x2 : Shape := ⟨3, ![2, 128, 2]⟩
abbrev S2x127x128 : Shape := ⟨3, ![2, 127, 128]⟩
abbrev S2x1x128 : Shape := ⟨3, ![2, 1, 128]⟩
abbrev S2x126x128 : Shape := ⟨3, ![2, 126, 128]⟩
abbrev S2x2x128 : Shape := ⟨3, ![2, 2, 128]⟩
abbrev S1x32768 : Shape := ⟨2, ![1, 32768]⟩
abbrev S1x32x16 : Shape := ⟨3, ![1, 32, 16]⟩
abbrev S1 : Shape := ⟨1, ![1]⟩
abbrev S1x1x1 : Shape := ⟨3, ![1, 1, 1]⟩

abbrev nBuf : Space → Nat
  | .hbm => 4
  | .vmem => 3
  | .smem => 0
  | _ => 0

abbrev bufTy : (tb : Table) → Fin (tcTables nBuf tb) → BufTy
  | .hbm, ⟨0, _⟩ => ⟨S2x128x128x128, .f32⟩
  | .hbm, ⟨1, _⟩ => ⟨S2x128x128x128, .f32⟩
  | .hbm, ⟨2, _⟩ => ⟨S1x1, .f32⟩
  | .hbm, ⟨3, _⟩ => ⟨S_, .f32⟩
  | .local _ .vmem, ⟨0, _⟩ => ⟨S2x128x128x128, .f32⟩
  | .local _ .vmem, ⟨1, _⟩ => ⟨S2x128x128x128, .f32⟩
  | .local _ .vmem, ⟨2, _⟩ => ⟨S1x1, .f32⟩
  | _, _ => ⟨S2x128x128x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c128_i32 : BitVec 32 := 128#32
  let v40 : BitVec 32 := Scalar.addi c0_i32 c128_i32
  let c1_i32 : BitVec 32 := 1#32
  ⟨c0_i32, v40, c1_i32⟩
def k0_off1 (k0_t1 : Fin k0_t1_loop.trips) : Fin 4 → Nat :=
  let c0_27 : Index := 0#32
  let c0_i32 : BitVec 32 := 0#32
  let c1_i32 : BitVec 32 := 1#32
  let arg3 : BitVec 32 := Scf.iv c0_i32 c1_i32 k0_t1
  let c127_i32 : BitVec 32 := 127#32
  let v68 : BitVec 32 := Scalar.minsi arg3 c127_i32
  let v69 : Index := Scalar.indexCast v68
  let c0_28 : Index := 0#32
  let c0_29 : Index := 0#32
  ![0, v69.toNat, 0, 0]
def k0_off2 (k0_t1 : Fin k0_t1_loop.trips) (c1_i32_33 : BitVec 32) : Fin 4 → Nat :=
  let c0_35 : Index := 0#32
  let c0_i32 : BitVec 32 := 0#32
  let c1_i32 : BitVec 32 := 1#32
  let arg3 : BitVec 32 := Scf.iv c0_i32 c1_i32 k0_t1
  let v78 : BitVec 32 := Scalar.addi arg3 c1_i32_33
  let c127_i32_34 : BitVec 32 := 127#32
  let v79 : BitVec 32 := Scalar.minsi v78 c127_i32_34
  let v80 : Index := Scalar.indexCast v79
  let c0_36 : Index := 0#32
  let c0_37 : Index := 0#32
  ![0, v80.toNat, 0, 0]
abbrev stage0_0 : Fin 1 → Memref sig .tc .vmem S2x128x128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== KernelIdeal.lean ====
variable {F : FTy → Type} [FloatOps F] [Named F]
def κ : String → Option EReal := fun
  | "scale" => some ((1 / 6495211421775691776 : ℝ) : EReal)
  | _ => none
-- ==== ReferenceIdeal.lean ====
abbrev S2x128x128x128 : Shape := ⟨4, ![2, 128, 128, 128]⟩
abbrev S_ : Shape := ⟨0, ![]⟩
abbrev S128x2x128x128 : Shape := ⟨4, ![128, 2, 128, 128]⟩
abbrev S128x2x126x126 : Shape := ⟨4, ![128, 2, 126, 126]⟩
abbrev S4064256 : Shape := ⟨1, ![4064256]⟩
abbrev S512 : Shape := ⟨1, ![512]⟩
abbrev S4064256x1 : Shape := ⟨2, ![4064256, 1]⟩

abbrev nBuf : Space → Nat
  | .hbm => 474
  | .vmem => 0
  | .smem => 0
  | _ => 0

abbrev hbmTy0_0 (i : Nat) : BufTy := match i % 128 with
  | 0 => ⟨S2x128x128x128, .f32⟩
  | 1 => ⟨S2x128x128x128, .f32⟩
  | 2 => ⟨S_, .f32⟩
  | 3 => ⟨S2x128x128x128, .f32⟩
  | 4 => ⟨S2x128x128x128, .i1⟩
  | 5 => ⟨S2x128x128x128, .f32⟩
  | 6 => ⟨S_, .f32⟩
  | 7 => ⟨S2x128x128x128, .f32⟩
  | 8 => ⟨S2x128x128x128, .i1⟩
  | 9 => ⟨S2x128x128x128, .f32⟩
  | 10 => ⟨S128x2x128x128, .f32⟩
  | 11 => ⟨S128x2x128x128, .f32⟩
  | 12 => ⟨S128x2x126x126, .f32⟩
  | 13 => ⟨S_, .f32⟩
  | 14 => ⟨S128x2x126x126, .f32⟩
  | 15 => ⟨S128x2x126x126, .f32⟩
  | 16 => ⟨S_, .f32⟩
  | 17 => ⟨S128x2x126x126, .f32⟩
  | 18 => ⟨S128x2x126x126, .f32⟩
  | 19 => ⟨S128x2x126x126, .f32⟩
  | 20 => ⟨S_, .f32⟩
  | 21 => ⟨S128x2x126x126, .f32⟩
  | 22 => ⟨S128x2x126x126, .f32⟩
  | 23 => ⟨S128x2x126x126, .f32⟩
  | 24 => ⟨S128x2x126x126, .f32⟩
  | 25 => ⟨S_, .f32⟩
  | 26 => ⟨S128x2x126x126, .f32⟩
  | 27 => ⟨S128x2x126x126, .f32⟩
  | 28 => ⟨S128x2x126x126, .f32⟩
  | 29 => ⟨S128x2x126x126, .f32⟩
  | 30 => ⟨S_, .f32⟩
  | 31 => ⟨S128x2x126x126, .f32⟩
  | 32 => ⟨S128x2x126x126, .f32⟩
  | 33 => ⟨S128x2x126x126, .f32⟩
  | 34 => ⟨S128x2x126x126, .f32⟩
  | 35 => ⟨S_, .f32⟩
  | 36 => ⟨S128x2x126x126, .f32⟩
  | 37 => ⟨S128x2x126x126, .f32⟩
  | 38 => ⟨S128x2x126x126, .f32⟩
  | 39 => ⟨S128x2x126x126, .f32⟩
  | 40 => ⟨S_, .f32⟩
  | 41 => ⟨S128x2x126x126, .f32⟩
  | 42 => ⟨S128x2x126x126, .f32⟩
  | 43 => ⟨S128x2x126x126, .f32⟩
  | 44 => ⟨S128x2x126x126, .f32⟩
  | 45 => ⟨S_, .f32⟩
  | 46 => ⟨S128x2x126x126, .f32⟩
  | 47 => ⟨S128x2x126x126, .f32⟩
  | 48 => ⟨S128x2x126x126, .f32⟩
  | 49 => ⟨S128x2x126x126, .f32⟩
  | 50 => ⟨S_, .f32⟩
  | 51 => ⟨S128x2x126x126, .f32⟩
  | 52 => ⟨S128x2x126x126, .f32⟩
  | 53 => ⟨S128x2x126x126, .f32⟩
  | 54 => ⟨S128x2x126x126, .f32⟩
  | 55 => ⟨S_, .f32⟩
  | 56 => ⟨S128x2x126x126, .f32⟩
  | 57 => ⟨S128x2x126x126, .f32⟩
  | 58 => ⟨S128x2x126x126, .f32⟩
  | 59 => ⟨S4064256, .f32⟩
  | 60 => ⟨S4064256, .i32⟩
  | 61 => ⟨S_, .i32⟩
  | 62 => ⟨S512, .i32⟩
  | 63 => ⟨S_, .i32⟩
  | 64 => ⟨S_, .i32⟩
  | 65 => ⟨S4064256, .i32⟩
  | 66 => ⟨S4064256, .i32⟩
  | 67 => ⟨S_, .i32⟩
  | 68 => ⟨S4064256, .i32⟩
  | 69 => ⟨S4064256, .i1⟩
  | 70 => ⟨S_, .i32⟩
  | 71 => ⟨S4064256, .i32⟩
  | 72 => ⟨S4064256, .i32⟩
  | 73 => ⟨S4064256, .i32⟩
  | 74 => ⟨S4064256x1, .i32⟩
  | 75 => ⟨S_, .i32⟩
  | 76 => ⟨S4064256, .i32⟩
  | 77 => ⟨S512, .i32⟩
  | 78 => ⟨S512, .f32⟩
  | 79 => ⟨S_, .f32⟩
  | 80 => ⟨S512, .f32⟩
  | 81 => ⟨S512, .f32⟩
  | 82 => ⟨S128x2x126x126, .f32⟩
  | 83 => ⟨S_, .f32⟩
  | 84 => ⟨S128x2x126x126, .f32⟩
  | 85 => ⟨S128x2x126x126, .f32⟩
  | 86 => ⟨S_, .f32⟩
  | 87 => ⟨S128x2x126x126, .f32⟩
  | 88 => ⟨S128x2x126x126, .f32⟩
  | 89 => ⟨S128x2x126x126, .f32⟩
  | 90 => ⟨S_, .f32⟩
  | 91 => ⟨S128x2x126x126, .f32⟩
  | 92 => ⟨S128x2x126x126, .f32⟩
  | 93 => ⟨S128x2x126x126, .f32⟩
  | 94 => ⟨S128x2x126x126, .f32⟩
  | 95 => ⟨S_, .f32⟩
  | 96 => ⟨S128x2x126x126, .f32⟩
  | 97 => ⟨S128x2x126x126, .f32⟩
  | 98 => ⟨S128x2x126x126, .f32⟩
  | 99 => ⟨S128x2x126x126, .f32⟩
  | 100 => ⟨S_, .f32⟩
  | 101 => ⟨S128x2x126x126, .f32⟩
  | 102 => ⟨S128x2x126x126, .f32⟩
  | 103 => ⟨S128x2x126x126, .f32⟩
  | 104 => ⟨S128x2x126x126, .f32⟩
  | 105 => ⟨S_, .f32⟩
  | 106 => ⟨S128x2x126x126, .f32⟩
  | 107 => ⟨S128x2x126x126, .f32⟩
  | 108 => ⟨S128x2x126x126, .f32⟩
  | 109 => ⟨S128x2x126x126, .f32⟩
  | 110 => ⟨S_, .f32⟩
  | 111 => ⟨S128x2x126x126, .f32⟩
  | 112 => ⟨S128x2x126x126, .f32⟩
  | 113 => ⟨S128x2x126x126, .f32⟩
  | 114 => ⟨S128x2x126x126, .f32⟩
  | 115 => ⟨S_, .f32⟩
  | 116 => ⟨S128x2x126x126, .f32⟩
  | 117 => ⟨S128x2x126x126, .f32⟩
  | 118 => ⟨S128x2x126x126, .f32⟩
  | 119 => ⟨S128x2x126x126, .f32⟩
  | 120 => ⟨S_, .f32⟩
  | 121 => ⟨S128x2x126x126, .f32⟩
  | 122 => ⟨S128x2x126x126, .f32⟩
  | 123 => ⟨S128x2x126x126, .f32⟩
  | 124 => ⟨S128x2x126x126, .f32⟩
  | 125 => ⟨S_, .f32⟩
  | 126 => ⟨S128x2x126x126, .f32⟩
  | 127 => ⟨S128x2x126x126, .f32⟩
  | _ => ⟨S2x128x128x128, .f32⟩

abbrev hbmTy0_1 (i : Nat) : BufTy := match i % 128 with
  | 0 => ⟨S128x2x126x126, .f32⟩
  | 1 => ⟨S4064256, .f32⟩
  | 2 => ⟨S4064256, .i32⟩
  | 3 => ⟨S_, .i32⟩
  | 4 => ⟨S512, .i32⟩
  | 5 => ⟨S_, .i32⟩
  | 6 => ⟨S_, .i32⟩
  | 7 => ⟨S4064256, .i32⟩
  | 8 => ⟨S4064256, .i32⟩
  | 9 => ⟨S_, .i32⟩
  | 10 => ⟨S4064256, .i32⟩
  | 11 => ⟨S4064256, .i1⟩
  | 12 => ⟨S_, .i32⟩
  | 13 => ⟨S4064256, .i32⟩
  | 14 => ⟨S4064256, .i32⟩
  | 15 => ⟨S4064256, .i32⟩
  | 16 => ⟨S4064256x1, .i32⟩
  | 17 => ⟨S_, .i32⟩
  | 18 => ⟨S4064256, .i32⟩
  | 19 => ⟨S512, .i32⟩
  | 20 => ⟨S512, .f32⟩
  | 21 => ⟨S_, .f32⟩
  | 22 => ⟨S512, .f32⟩
  | 23 => ⟨S512, .f32⟩
  | 24 => ⟨S512, .f32⟩
  | 25 => ⟨S512, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S2x128x128x128, .f32⟩
  | 35 => ⟨S2x128x128x128, .f32⟩
  | 36 => ⟨S128x2x128x128, .f32⟩
  | 37 => ⟨S128x2x128x128, .f32⟩
  | 38 => ⟨S128x2x126x126, .f32⟩
  | 39 => ⟨S_, .f32⟩
  | 40 => ⟨S128x2x126x126, .f32⟩
  | 41 => ⟨S128x2x126x126, .f32⟩
  | 42 => ⟨S_, .f32⟩
  | 43 => ⟨S128x2x126x126, .f32⟩
  | 44 => ⟨S128x2x126x126, .f32⟩
  | 45 => ⟨S128x2x126x126, .f32⟩
  | 46 => ⟨S_, .f32⟩
  | 47 => ⟨S128x2x126x126, .f32⟩
  | 48 => ⟨S128x2x126x126, .f32⟩
  | 49 => ⟨S128x2x126x126, .f32⟩
  | 50 => ⟨S128x2x126x126, .f32⟩
  | 51 => ⟨S_, .f32⟩
  | 52 => ⟨S128x2x126x126, .f32⟩
  | 53 => ⟨S128x2x126x126, .f32⟩
  | 54 => ⟨S128x2x126x126, .f32⟩
  | 55 => ⟨S128x2x126x126, .f32⟩
  | 56 => ⟨S_, .f32⟩
  | 57 => ⟨S128x2x126x126, .f32⟩
  | 58 => ⟨S128x2x126x126, .f32⟩
  | 59 => ⟨S128x2x126x126, .f32⟩
  | 60 => ⟨S128x2x126x126, .f32⟩
  | 61 => ⟨S_, .f32⟩
  | 62 => ⟨S128x2x126x126, .f32⟩
  | 63 => ⟨S128x2x126x126, .f32⟩
  | 64 => ⟨S128x2x126x126, .f32⟩
  | 65 => ⟨S128x2x126x126, .f32⟩
  | 66 => ⟨S_, .f32⟩
  | 67 => ⟨S128x2x126x126, .f32⟩
  | 68 => ⟨S128x2x126x126, .f32⟩
  | 69 => ⟨S128x2x126x126, .f32⟩
  | 70 => ⟨S128x2x126x126, .f32⟩
  | 71 => ⟨S_, .f32⟩
  | 72 => ⟨S128x2x126x126, .f32⟩
  | 73 => ⟨S128x2x126x126, .f32⟩
  | 74 => ⟨S128x2x126x126, .f32⟩
  | 75 => ⟨S128x2x126x126, .f32⟩
  | 76 => ⟨S_, .f32⟩
  | 77 => ⟨S128x2x126x126, .f32⟩
  | 78 => ⟨S128x2x126x126, .f32⟩
  | 79 => ⟨S128x2x126x126, .f32⟩
  | 80 => ⟨S128x2x126x126, .f32⟩
  | 81 => ⟨S_, .f32⟩
  | 82 => ⟨S128x2x126x126, .f32⟩
  | 83 => ⟨S128x2x126x126, .f32⟩
  | 84 => ⟨S128x2x126x126, .f32⟩
  | 85 => ⟨S4064256, .f32⟩
  | 86 => ⟨S4064256, .i32⟩
  | 87 => ⟨S_, .i32⟩
  | 88 => ⟨S512, .i32⟩
  | 89 => ⟨S_, .i32⟩
  | 90 => ⟨S_, .i32⟩
  | 91 => ⟨S4064256, .i32⟩
  | 92 => ⟨S4064256, .i32⟩
  | 93 => ⟨S_, .i32⟩
  | 94 => ⟨S4064256, .i32⟩
  | 95 => ⟨S4064256, .i1⟩
  | 96 => ⟨S_, .i32⟩
  | 97 => ⟨S4064256, .i32⟩
  | 98 => ⟨S4064256, .i32⟩
  | 99 => ⟨S4064256, .i32⟩
  | 100 => ⟨S4064256x1, .i32⟩
  | 101 => ⟨S_, .i32⟩
  | 102 => ⟨S4064256, .i32⟩
  | 103 => ⟨S512, .i32⟩
  | 104 => ⟨S512, .f32⟩
  | 105 => ⟨S_, .f32⟩
  | 106 => ⟨S512, .f32⟩
  | 107 => ⟨S512, .f32⟩
  | 108 => ⟨S128x2x126x126, .f32⟩
  | 109 => ⟨S_, .f32⟩
  | 110 => ⟨S128x2x126x126, .f32⟩
  | 111 => ⟨S128x2x126x126, .f32⟩
  | 112 => ⟨S_, .f32⟩
  | 113 => ⟨S128x2x126x126, .f32⟩
  | 114 => ⟨S128x2x126x126, .f32⟩
  | 115 => ⟨S128x2x126x126, .f32⟩
  | 116 => ⟨S_, .f32⟩
  | 117 => ⟨S128x2x126x126, .f32⟩
  | 118 => ⟨S128x2x126x126, .f32⟩
  | 119 => ⟨S128x2x126x126, .f32⟩
  | 120 => ⟨S128x2x126x126, .f32⟩
  | 121 => ⟨S_, .f32⟩
  | 122 => ⟨S128x2x126x126, .f32⟩
  | 123 => ⟨S128x2x126x126, .f32⟩
  | 124 => ⟨S128x2x126x126, .f32⟩
  | 125 => ⟨S128x2x126x126, .f32⟩
  | 126 => ⟨S_, .f32⟩
  | 127 => ⟨S128x2x126x126, .f32⟩
  | _ => ⟨S2x128x128x128, .f32⟩

abbrev hbmTy0_2 (i : Nat) : BufTy := match i % 128 with
  | 0 => ⟨S128x2x126x126, .f32⟩
  | 1 => ⟨S128x2x126x126, .f32⟩
  | 2 => ⟨S128x2x126x126, .f32⟩
  | 3 => ⟨S_, .f32⟩
  | 4 => ⟨S128x2x126x126, .f32⟩
  | 5 => ⟨S128x2x126x126, .f32⟩
  | 6 => ⟨S128x2x126x126, .f32⟩
  | 7 => ⟨S128x2x126x126, .f32⟩
  | 8 => ⟨S_, .f32⟩
  | 9 => ⟨S128x2x126x126, .f32⟩
  | 10 => ⟨S128x2x126x126, .f32⟩
  | 11 => ⟨S128x2x126x126, .f32⟩
  | 12 => ⟨S128x2x126x126, .f32⟩
  | 13 => ⟨S_, .f32⟩
  | 14 => ⟨S128x2x126x126, .f32⟩
  | 15 => ⟨S128x2x126x126, .f32⟩
  | 16 => ⟨S128x2x126x126, .f32⟩
  | 17 => ⟨S128x2x126x126, .f32⟩
  | 18 => ⟨S_, .f32⟩
  | 19 => ⟨S128x2x126x126, .f32⟩
  | 20 => ⟨S128x2x126x126, .f32⟩
  | 21 => ⟨S128x2x126x126, .f32⟩
  | 22 => ⟨S128x2x126x126, .f32⟩
  | 23 => ⟨S_, .f32⟩
  | 24 => ⟨S128x2x126x126, .f32⟩
  | 25 => ⟨S128x2x126x126, .f32⟩
  | 26 => ⟨S128x2x126x126, .f32⟩
  | 27 => ⟨S4064256, .f32⟩
  | 28 => ⟨S4064256, .i32⟩
  | 29 => ⟨S_, .i32⟩
  | 30 => ⟨S512, .i32⟩
  | 31 => ⟨S_, .i32⟩
  | 32 => ⟨S_, .i32⟩
  | 33 => ⟨S4064256, .i32⟩
  | 34 => ⟨S4064256, .i32⟩
  | 35 => ⟨S_, .i32⟩
  | 36 => ⟨S4064256, .i32⟩
  | 37 => ⟨S4064256, .i1⟩
  | 38 => ⟨S_, .i32⟩
  | 39 => ⟨S4064256, .i32⟩
  | 40 => ⟨S4064256, .i32⟩
  | 41 => ⟨S4064256, .i32⟩
  | 42 => ⟨S4064256x1, .i32⟩
  | 43 => ⟨S_, .i32⟩
  | 44 => ⟨S4064256, .i32⟩
  | 45 => ⟨S512, .i32⟩
  | 46 => ⟨S512, .f32⟩
  | 47 => ⟨S_, .f32⟩
  | 48 => ⟨S512, .f32⟩
  | 49 => ⟨S512, .f32⟩
  | 50 => ⟨S512, .f32⟩
  | 51 => ⟨S512, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S2x128x128x128, .f32⟩
  | 61 => ⟨S2x128x128x128, .f32⟩
  | 62 => ⟨S128x2x128x128, .f32⟩
  | 63 => ⟨S128x2x128x128, .f32⟩
  | 64 => ⟨S128x2x126x126, .f32⟩
  | 65 => ⟨S_, .f32⟩
  | 66 => ⟨S128x2x126x126, .f32⟩
  | 67 => ⟨S128x2x126x126, .f32⟩
  | 68 => ⟨S_, .f32⟩
  | 69 => ⟨S128x2x126x126, .f32⟩
  | 70 => ⟨S128x2x126x126, .f32⟩
  | 71 => ⟨S128x2x126x126, .f32⟩
  | 72 => ⟨S_, .f32⟩
  | 73 => ⟨S128x2x126x126, .f32⟩
  | 74 => ⟨S128x2x126x126, .f32⟩
  | 75 => ⟨S128x2x126x126, .f32⟩
  | 76 => ⟨S128x2x126x126, .f32⟩
  | 77 => ⟨S_, .f32⟩
  | 78 => ⟨S128x2x126x126, .f32⟩
  | 79 => ⟨S128x2x126x126, .f32⟩
  | 80 => ⟨S128x2x126x126, .f32⟩
  | 81 => ⟨S128x2x126x126, .f32⟩
  | 82 => ⟨S_, .f32⟩
  | 83 => ⟨S128x2x126x126, .f32⟩
  | 84 => ⟨S128x2x126x126, .f32⟩
  | 85 => ⟨S128x2x126x126, .f32⟩
  | 86 => ⟨S128x2x126x126, .f32⟩
  | 87 => ⟨S_, .f32⟩
  | 88 => ⟨S128x2x126x126, .f32⟩
  | 89 => ⟨S128x2x126x126, .f32⟩
  | 90 => ⟨S128x2x126x126, .f32⟩
  | 91 => ⟨S128x2x126x126, .f32⟩
  | 92 => ⟨S_, .f32⟩
  | 93 => ⟨S128x2x126x126, .f32⟩
  | 94 => ⟨S128x2x126x126, .f32⟩
  | 95 => ⟨S128x2x126x126, .f32⟩
  | 96 => ⟨S128x2x126x126, .f32⟩
  | 97 => ⟨S_, .f32⟩
  | 98 => ⟨S128x2x126x126, .f32⟩
  | 99 => ⟨S128x2x126x126, .f32⟩
  | 100 => ⟨S128x2x126x126, .f32⟩
  | 101 => ⟨S128x2x126x126, .f32⟩
  | 102 => ⟨S_, .f32⟩
  | 103 => ⟨S128x2x126x126, .f32⟩
  | 104 => ⟨S128x2x126x126, .f32⟩
  | 105 => ⟨S128x2x126x126, .f32⟩
  | 106 => ⟨S128x2x126x126, .f32⟩
  | 107 => ⟨S_, .f32⟩
  | 108 => ⟨S128x2x126x126, .f32⟩
  | 109 => ⟨S128x2x126x126, .f32⟩
  | 110 => ⟨S128x2x126x126, .f32⟩
  | 111 => ⟨S4064256, .f32⟩
  | 112 => ⟨S4064256, .i32⟩
  | 113 => ⟨S_, .i32⟩
  | 114 => ⟨S512, .i32⟩
  | 115 => ⟨S_, .i32⟩
  | 116 => ⟨S_, .i32⟩
  | 117 => ⟨S4064256, .i32⟩
  | 118 => ⟨S4064256, .i32⟩
  | 119 => ⟨S_, .i32⟩
  | 120 => ⟨S4064256, .i32⟩
  | 121 => ⟨S4064256, .i1⟩
  | 122 => ⟨S_, .i32⟩
  | 123 => ⟨S4064256, .i32⟩
  | 124 => ⟨S4064256, .i32⟩
  | 125 => ⟨S4064256, .i32⟩
  | 126 => ⟨S4064256x1, .i32⟩
  | 127 => ⟨S_, .i32⟩
  | _ => ⟨S2x128x128x128, .f32⟩

abbrev hbmTy0_3 (i : Nat) : BufTy := match i % 128 with
  | 0 => ⟨S4064256, .i32⟩
  | 1 => ⟨S512, .i32⟩
  | 2 => ⟨S512, .f32⟩
  | 3 => ⟨S_, .f32⟩
  | 4 => ⟨S512, .f32⟩
  | 5 => ⟨S512, .f32⟩
  | 6 => ⟨S128x2x126x126, .f32⟩
  | 7 => ⟨S_, .f32⟩
  | 8 => ⟨S128x2x126x126, .f32⟩
  | 9 => ⟨S128x2x126x126, .f32⟩
  | 10 => ⟨S_, .f32⟩
  | 11 => ⟨S128x2x126x126, .f32⟩
  | 12 => ⟨S128x2x126x126, .f32⟩
  | 13 => ⟨S128x2x126x126, .f32⟩
  | 14 => ⟨S_, .f32⟩
  | 15 => ⟨S128x2x126x126, .f32⟩
  | 16 => ⟨S128x2x126x126, .f32⟩
  | 17 => ⟨S128x2x126x126, .f32⟩
  | 18 => ⟨S128x2x126x126, .f32⟩
  | 19 => ⟨S_, .f32⟩
  | 20 => ⟨S128x2x126x126, .f32⟩
  | 21 => ⟨S128x2x126x126, .f32⟩
  | 22 => ⟨S128x2x126x126, .f32⟩
  | 23 => ⟨S128x2x126x126, .f32⟩
  | 24 => ⟨S_, .f32⟩
  | 25 => ⟨S128x2x126x126, .f32⟩
  | 26 => ⟨S128x2x126x126, .f32⟩
  | 27 => ⟨S128x2x126x126, .f32⟩
  | 28 => ⟨S128x2x126x126, .f32⟩
  | 29 => ⟨S_, .f32⟩
  | 30 => ⟨S128x2x126x126, .f32⟩
  | 31 => ⟨S128x2x126x126, .f32⟩
  | 32 => ⟨S128x2x126x126, .f32⟩
  | 33 => ⟨S128x2x126x126, .f32⟩
  | 34 => ⟨S_, .f32⟩
  | 35 => ⟨S128x2x126x126, .f32⟩
  | 36 => ⟨S128x2x126x126, .f32⟩
  | 37 => ⟨S128x2x126x126, .f32⟩
  | 38 => ⟨S128x2x126x126, .f32⟩
  | 39 => ⟨S_, .f32⟩
  | 40 => ⟨S128x2x126x126, .f32⟩
  | 41 => ⟨S128x2x126x126, .f32⟩
  | 42 => ⟨S128x2x126x126, .f32⟩
  | 43 => ⟨S128x2x126x126, .f32⟩
  | 44 => ⟨S_, .f32⟩
  | 45 => ⟨S128x2x126x126, .f32⟩
  | 46 => ⟨S128x2x126x126, .f32⟩
  | 47 => ⟨S128x2x126x126, .f32⟩
  | 48 => ⟨S128x2x126x126, .f32⟩
  | 49 => ⟨S_, .f32⟩
  | 50 => ⟨S128x2x126x126, .f32⟩
  | 51 => ⟨S128x2x126x126, .f32⟩
  | 52 => ⟨S128x2x126x126, .f32⟩
  | 53 => ⟨S4064256, .f32⟩
  | 54 => ⟨S4064256, .i32⟩
  | 55 => ⟨S_, .i32⟩
  | 56 => ⟨S512, .i32⟩
  | 57 => ⟨S_, .i32⟩
  | 58 => ⟨S_, .i32⟩
  | 59 => ⟨S4064256, .i32⟩
  | 60 => ⟨S4064256, .i32⟩
  | 61 => ⟨S_, .i32⟩
  | 62 => ⟨S4064256, .i32⟩
  | 63 => ⟨S4064256, .i1⟩
  | 64 => ⟨S_, .i32⟩
  | 65 => ⟨S4064256, .i32⟩
  | 66 => ⟨S4064256, .i32⟩
  | 67 => ⟨S4064256, .i32⟩
  | 68 => ⟨S4064256x1, .i32⟩
  | 69 => ⟨S_, .i32⟩
  | 70 => ⟨S4064256, .i32⟩
  | 71 => ⟨S512, .i32⟩
  | 72 => ⟨S512, .f32⟩
  | 73 => ⟨S_, .f32⟩
  | 74 => ⟨S512, .f32⟩
  | 75 => ⟨S512, .f32⟩
  | 76 => ⟨S512, .f32⟩
  | 77 => ⟨S512, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | _ => ⟨S2x128x128x128, .f32⟩

abbrev hbmTy (i : Nat) : BufTy := match i / 128 with
  | 0 => hbmTy0_0 i
  | 1 => hbmTy0_1 i
  | 2 => hbmTy0_2 i
  | 3 => hbmTy0_3 i
  | _ => ⟨S2x128x128x128, .f32⟩

abbrev bufTy : (tb : Table) → Fin (tcTables nBuf tb) → BufTy
  | .hbm, ⟨i, _⟩ => hbmTy i
  | _, _ => ⟨S2x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_6 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_7 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_8 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_9 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_10 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c : Ref sig .tc := ⟨.hbm, 61, rfl⟩
abbrev main_v47 : Ref sig .tc := ⟨.hbm, 62, rfl⟩
abbrev main_c_11 : Ref sig .tc := ⟨.hbm, 63, rfl⟩
abbrev main_call0_v0 : Ref sig .tc := ⟨.hbm, 64, rfl⟩
abbrev main_call0_v1 : Ref sig .tc := ⟨.hbm, 65, rfl⟩
abbrev main_v48 : Ref sig .tc := ⟨.hbm, 66, rfl⟩
abbrev main_c_12 : Ref sig .tc := ⟨.hbm, 67, rfl⟩
abbrev main_v49 : Ref sig .tc := ⟨.hbm, 68, rfl⟩
abbrev main_v50 : Ref sig .tc := ⟨.hbm, 69, rfl⟩
abbrev main_c_13 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_c_14 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_15 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_16 : Ref sig .tc := ⟨.hbm, 83, rfl⟩
abbrev main_v61 : Ref sig .tc := ⟨.hbm, 84, rfl⟩
abbrev main_v62 : Ref sig .tc := ⟨.hbm, 85, rfl⟩
abbrev main_cst_17 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_18 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_19 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_20 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_21 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_22 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_23 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_24 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_25 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_c_26 : Ref sig .tc := ⟨.hbm, 131, rfl⟩
abbrev main_v99 : Ref sig .tc := ⟨.hbm, 132, rfl⟩
abbrev main_c_27 : Ref sig .tc := ⟨.hbm, 133, rfl⟩
abbrev main_call1_v0 : Ref sig .tc := ⟨.hbm, 134, rfl⟩
abbrev main_call1_v1 : Ref sig .tc := ⟨.hbm, 135, rfl⟩
abbrev main_v100 : Ref sig .tc := ⟨.hbm, 136, rfl⟩
abbrev main_c_28 : Ref sig .tc := ⟨.hbm, 137, rfl⟩
abbrev main_v101 : Ref sig .tc := ⟨.hbm, 138, rfl⟩
abbrev main_v102 : Ref sig .tc := ⟨.hbm, 139, rfl⟩
abbrev main_c_29 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_c_30 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_cst_31 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_cst_32 : Ref sig .tc := ⟨.hbm, 154, rfl⟩
abbrev main_v114 : Ref sig .tc := ⟨.hbm, 155, rfl⟩
abbrev main_cst_33 : Ref sig .tc := ⟨.hbm, 156, rfl⟩
abbrev main_v115 : Ref sig .tc := ⟨.hbm, 157, rfl⟩
abbrev main_cst_34 : Ref sig .tc := ⟨.hbm, 158, rfl⟩
abbrev main_v116 : Ref sig .tc := ⟨.hbm, 159, rfl⟩
abbrev main_cst_35 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_cst_36 : Ref sig .tc := ⟨.hbm, 167, rfl⟩
abbrev main_v123 : Ref sig .tc := ⟨.hbm, 168, rfl⟩
abbrev main_v124 : Ref sig .tc := ⟨.hbm, 169, rfl⟩
abbrev main_cst_37 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_cst_38 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_cst_39 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_cst_40 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_cst_41 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_cst_42 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_cst_43 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_cst_44 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_cst_45 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_c_46 : Ref sig .tc := ⟨.hbm, 215, rfl⟩
abbrev main_v161 : Ref sig .tc := ⟨.hbm, 216, rfl⟩
abbrev main_c_47 : Ref sig .tc := ⟨.hbm, 217, rfl⟩
abbrev main_call2_v0 : Ref sig .tc := ⟨.hbm, 218, rfl⟩
abbrev main_call2_v1 : Ref sig .tc := ⟨.hbm, 219, rfl⟩
abbrev main_v162 : Ref sig .tc := ⟨.hbm, 220, rfl⟩
abbrev main_c_48 : Ref sig .tc := ⟨.hbm, 221, rfl⟩
abbrev main_v163 : Ref sig .tc := ⟨.hbm, 222, rfl⟩
abbrev main_v164 : Ref sig .tc := ⟨.hbm, 223, rfl⟩
abbrev main_c_49 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_c_50 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_cst_51 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_cst_52 : Ref sig .tc := ⟨.hbm, 237, rfl⟩
abbrev main_v175 : Ref sig .tc := ⟨.hbm, 238, rfl⟩
abbrev main_v176 : Ref sig .tc := ⟨.hbm, 239, rfl⟩
abbrev main_cst_53 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_cst_54 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_cst_55 : Ref sig .tc := ⟨.hbm, 249, rfl⟩
abbrev main_v184 : Ref sig .tc := ⟨.hbm, 250, rfl⟩
abbrev main_v185 : Ref sig .tc := ⟨.hbm, 251, rfl⟩
abbrev main_v186 : Ref sig .tc := ⟨.hbm, 252, rfl⟩
abbrev main_v187 : Ref sig .tc := ⟨.hbm, 253, rfl⟩
abbrev main_cst_56 : Ref sig .tc := ⟨.hbm, 254, rfl⟩
abbrev main_v188 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_cst_57 : Ref sig .tc := ⟨.hbm, 259, rfl⟩
abbrev main_v192 : Ref sig .tc := ⟨.hbm, 260, rfl⟩
abbrev main_v193 : Ref sig .tc := ⟨.hbm, 261, rfl⟩
abbrev main_v194 : Ref sig .tc := ⟨.hbm, 262, rfl⟩
abbrev main_v195 : Ref sig .tc := ⟨.hbm, 263, rfl⟩
abbrev main_cst_58 : Ref sig .tc := ⟨.hbm, 264, rfl⟩
abbrev main_v196 : Ref sig .tc := ⟨.hbm, 265, rfl⟩
abbrev main_v197 : Ref sig .tc := ⟨.hbm, 266, rfl⟩
abbrev main_v198 : Ref sig .tc := ⟨.hbm, 267, rfl⟩
abbrev main_v199 : Ref sig .tc := ⟨.hbm, 268, rfl⟩
abbrev main_cst_59 : Ref sig .tc := ⟨.hbm, 269, rfl⟩
abbrev main_v200 : Ref sig .tc := ⟨.hbm, 270, rfl⟩
abbrev main_v201 : Ref sig .tc := ⟨.hbm, 271, rfl⟩
abbrev main_v202 : Ref sig .tc := ⟨.hbm, 272, rfl⟩
abbrev main_v203 : Ref sig .tc := ⟨.hbm, 273, rfl⟩
abbrev main_cst_60 : Ref sig .tc := ⟨.hbm, 274, rfl⟩
abbrev main_v204 : Ref sig .tc := ⟨.hbm, 275, rfl⟩
abbrev main_v205 : Ref sig .tc := ⟨.hbm, 276, rfl⟩
abbrev main_v206 : Ref sig .tc := ⟨.hbm, 277, rfl⟩
abbrev main_v207 : Ref sig .tc := ⟨.hbm, 278, rfl⟩
abbrev main_cst_61 : Ref sig .tc := ⟨.hbm, 279, rfl⟩
abbrev main_v208 : Ref sig .tc := ⟨.hbm, 280, rfl⟩
abbrev main_v209 : Ref sig .tc := ⟨.hbm, 281, rfl⟩
abbrev main_v210 : Ref sig .tc := ⟨.hbm, 282, rfl⟩
abbrev main_v211 : Ref sig .tc := ⟨.hbm, 283, rfl⟩
abbrev main_v212 : Ref sig .tc := ⟨.hbm, 284, rfl⟩
abbrev main_c_62 : Ref sig .tc := ⟨.hbm, 285, rfl⟩
abbrev main_v213 : Ref sig .tc := ⟨.hbm, 286, rfl⟩
abbrev main_c_63 : Ref sig .tc := ⟨.hbm, 287, rfl⟩
abbrev main_call3_v0 : Ref sig .tc := ⟨.hbm, 288, rfl⟩
abbrev main_call3_v1 : Ref sig .tc := ⟨.hbm, 289, rfl⟩
abbrev main_v214 : Ref sig .tc := ⟨.hbm, 290, rfl⟩
abbrev main_c_64 : Ref sig .tc := ⟨.hbm, 291, rfl⟩
abbrev main_v215 : Ref sig .tc := ⟨.hbm, 292, rfl⟩
abbrev main_v216 : Ref sig .tc := ⟨.hbm, 293, rfl⟩
abbrev main_c_65 : Ref sig .tc := ⟨.hbm, 294, rfl⟩
abbrev main_v217 : Ref sig .tc := ⟨.hbm, 295, rfl⟩
abbrev main_v218 : Ref sig .tc := ⟨.hbm, 296, rfl⟩
abbrev main_v219 : Ref sig .tc := ⟨.hbm, 297, rfl⟩
abbrev main_v220 : Ref sig .tc := ⟨.hbm, 298, rfl⟩
abbrev main_c_66 : Ref sig .tc := ⟨.hbm, 299, rfl⟩
abbrev main_v221 : Ref sig .tc := ⟨.hbm, 300, rfl⟩
abbrev main_v222 : Ref sig .tc := ⟨.hbm, 301, rfl⟩
abbrev main_v223 : Ref sig .tc := ⟨.hbm, 302, rfl⟩
abbrev main_cst_67 : Ref sig .tc := ⟨.hbm, 303, rfl⟩
abbrev main_v224 : Ref sig .tc := ⟨.hbm, 304, rfl⟩
abbrev main_v225 : Ref sig .tc := ⟨.hbm, 305, rfl⟩
abbrev main_v226 : Ref sig .tc := ⟨.hbm, 306, rfl⟩
abbrev main_v227 : Ref sig .tc := ⟨.hbm, 307, rfl⟩
abbrev main_cst_68 : Ref sig .tc := ⟨.hbm, 308, rfl⟩
abbrev main_v228 : Ref sig .tc := ⟨.hbm, 309, rfl⟩
abbrev main_cst_69 : Ref sig .tc := ⟨.hbm, 310, rfl⟩
abbrev main_v229 : Ref sig .tc := ⟨.hbm, 311, rfl⟩
abbrev main_cst_70 : Ref sig .tc := ⟨.hbm, 312, rfl⟩
abbrev main_v230 : Ref sig .tc := ⟨.hbm, 313, rfl⟩
abbrev main_cst_71 : Ref sig .tc := ⟨.hbm, 314, rfl⟩
abbrev main_v231 : Ref sig .tc := ⟨.hbm, 315, rfl⟩
abbrev main_v232 : Ref sig .tc := ⟨.hbm, 316, rfl⟩
abbrev main_v233 : Ref sig .tc := ⟨.hbm, 317, rfl⟩
abbrev main_v234 : Ref sig .tc := ⟨.hbm, 318, rfl⟩
abbrev main_v235 : Ref sig .tc := ⟨.hbm, 319, rfl⟩
abbrev main_v236 : Ref sig .tc := ⟨.hbm, 320, rfl⟩
abbrev main_cst_72 : Ref sig .tc := ⟨.hbm, 321, rfl⟩
abbrev main_v237 : Ref sig .tc := ⟨.hbm, 322, rfl⟩
abbrev main_v238 : Ref sig .tc := ⟨.hbm, 323, rfl⟩
abbrev main_cst_73 : Ref sig .tc := ⟨.hbm, 324, rfl⟩
abbrev main_v239 : Ref sig .tc := ⟨.hbm, 325, rfl⟩
abbrev main_v240 : Ref sig .tc := ⟨.hbm, 326, rfl⟩
abbrev main_v241 : Ref sig .tc := ⟨.hbm, 327, rfl⟩
abbrev main_cst_74 : Ref sig .tc := ⟨.hbm, 328, rfl⟩
abbrev main_v242 : Ref sig .tc := ⟨.hbm, 329, rfl⟩
abbrev main_v243 : Ref sig .tc := ⟨.hbm, 330, rfl⟩
abbrev main_v244 : Ref sig .tc := ⟨.hbm, 331, rfl⟩
abbrev main_v245 : Ref sig .tc := ⟨.hbm, 332, rfl⟩
abbrev main_cst_75 : Ref sig .tc := ⟨.hbm, 333, rfl⟩
abbrev main_v246 : Ref sig .tc := ⟨.hbm, 334, rfl⟩
abbrev main_v247 : Ref sig .tc := ⟨.hbm, 335, rfl⟩
abbrev main_v248 : Ref sig .tc := ⟨.hbm, 336, rfl⟩
abbrev main_v249 : Ref sig .tc := ⟨.hbm, 337, rfl⟩
abbrev main_cst_76 : Ref sig .tc := ⟨.hbm, 338, rfl⟩
abbrev main_v250 : Ref sig .tc := ⟨.hbm, 339, rfl⟩
abbrev main_v251 : Ref sig .tc := ⟨.hbm, 340, rfl⟩
abbrev main_v252 : Ref sig .tc := ⟨.hbm, 341, rfl⟩
abbrev main_v253 : Ref sig .tc := ⟨.hbm, 342, rfl⟩
abbrev main_cst_77 : Ref sig .tc := ⟨.hbm, 343, rfl⟩
abbrev main_v254 : Ref sig .tc := ⟨.hbm, 344, rfl⟩
abbrev main_v255 : Ref sig .tc := ⟨.hbm, 345, rfl⟩
abbrev main_v256 : Ref sig .tc := ⟨.hbm, 346, rfl⟩
abbrev main_v257 : Ref sig .tc := ⟨.hbm, 347, rfl⟩
abbrev main_cst_78 : Ref sig .tc := ⟨.hbm, 348, rfl⟩
abbrev main_v258 : Ref sig .tc := ⟨.hbm, 349, rfl⟩
abbrev main_v259 : Ref sig .tc := ⟨.hbm, 350, rfl⟩
abbrev main_v260 : Ref sig .tc := ⟨.hbm, 351, rfl⟩
abbrev main_v261 : Ref sig .tc := ⟨.hbm, 352, rfl⟩
abbrev main_cst_79 : Ref sig .tc := ⟨.hbm, 353, rfl⟩
abbrev main_v262 : Ref sig .tc := ⟨.hbm, 354, rfl⟩
abbrev main_v263 : Ref sig .tc := ⟨.hbm, 355, rfl⟩
abbrev main_v264 : Ref sig .tc := ⟨.hbm, 356, rfl⟩
abbrev main_v265 : Ref sig .tc := ⟨.hbm, 357, rfl⟩
abbrev main_cst_80 : Ref sig .tc := ⟨.hbm, 358, rfl⟩
abbrev main_v266 : Ref sig .tc := ⟨.hbm, 359, rfl⟩
abbrev main_v267 : Ref sig .tc := ⟨.hbm, 360, rfl⟩
abbrev main_v268 : Ref sig .tc := ⟨.hbm, 361, rfl⟩
abbrev main_v269 : Ref sig .tc := ⟨.hbm, 362, rfl⟩
abbrev main_cst_81 : Ref sig .tc := ⟨.hbm, 363, rfl⟩
abbrev main_v270 : Ref sig .tc := ⟨.hbm, 364, rfl⟩
abbrev main_v271 : Ref sig .tc := ⟨.hbm, 365, rfl⟩
abbrev main_v272 : Ref sig .tc := ⟨.hbm, 366, rfl⟩
abbrev main_v273 : Ref sig .tc := ⟨.hbm, 367, rfl⟩
abbrev main_v274 : Ref sig .tc := ⟨.hbm, 368, rfl⟩
abbrev main_c_82 : Ref sig .tc := ⟨.hbm, 369, rfl⟩
abbrev main_v275 : Ref sig .tc := ⟨.hbm, 370, rfl⟩
abbrev main_c_83 : Ref sig .tc := ⟨.hbm, 371, rfl⟩
abbrev main_call4_v0 : Ref sig .tc := ⟨.hbm, 372, rfl⟩
abbrev main_call4_v1 : Ref sig .tc := ⟨.hbm, 373, rfl⟩
abbrev main_v276 : Ref sig .tc := ⟨.hbm, 374, rfl⟩
abbrev main_c_84 : Ref sig .tc := ⟨.hbm, 375, rfl⟩
abbrev main_v277 : Ref sig .tc := ⟨.hbm, 376, rfl⟩
abbrev main_v278 : Ref sig .tc := ⟨.hbm, 377, rfl⟩
abbrev main_c_85 : Ref sig .tc := ⟨.hbm, 378, rfl⟩
abbrev main_v279 : Ref sig .tc := ⟨.hbm, 379, rfl⟩
abbrev main_v280 : Ref sig .tc := ⟨.hbm, 380, rfl⟩
abbrev main_v281 : Ref sig .tc := ⟨.hbm, 381, rfl⟩
abbrev main_v282 : Ref sig .tc := ⟨.hbm, 382, rfl⟩
abbrev main_c_86 : Ref sig .tc := ⟨.hbm, 383, rfl⟩
abbrev main_v283 : Ref sig .tc := ⟨.hbm, 384, rfl⟩
abbrev main_v284 : Ref sig .tc := ⟨.hbm, 385, rfl⟩
abbrev main_v285 : Ref sig .tc := ⟨.hbm, 386, rfl⟩
abbrev main_cst_87 : Ref sig .tc := ⟨.hbm, 387, rfl⟩
abbrev main_v286 : Ref sig .tc := ⟨.hbm, 388, rfl⟩
abbrev main_v287 : Ref sig .tc := ⟨.hbm, 389, rfl⟩
abbrev main_v288 : Ref sig .tc := ⟨.hbm, 390, rfl⟩
abbrev main_cst_88 : Ref sig .tc := ⟨.hbm, 391, rfl⟩
abbrev main_v289 : Ref sig .tc := ⟨.hbm, 392, rfl⟩
abbrev main_v290 : Ref sig .tc := ⟨.hbm, 393, rfl⟩
abbrev main_cst_89 : Ref sig .tc := ⟨.hbm, 394, rfl⟩
abbrev main_v291 : Ref sig .tc := ⟨.hbm, 395, rfl⟩
abbrev main_v292 : Ref sig .tc := ⟨.hbm, 396, rfl⟩
abbrev main_v293 : Ref sig .tc := ⟨.hbm, 397, rfl⟩
abbrev main_cst_90 : Ref sig .tc := ⟨.hbm, 398, rfl⟩
abbrev main_v294 : Ref sig .tc := ⟨.hbm, 399, rfl⟩
abbrev main_v295 : Ref sig .tc := ⟨.hbm, 400, rfl⟩
abbrev main_v296 : Ref sig .tc := ⟨.hbm, 401, rfl⟩
abbrev main_v297 : Ref sig .tc := ⟨.hbm, 402, rfl⟩
abbrev main_cst_91 : Ref sig .tc := ⟨.hbm, 403, rfl⟩
abbrev main_v298 : Ref sig .tc := ⟨.hbm, 404, rfl⟩
abbrev main_v299 : Ref sig .tc := ⟨.hbm, 405, rfl⟩
abbrev main_v300 : Ref sig .tc := ⟨.hbm, 406, rfl⟩
abbrev main_v301 : Ref sig .tc := ⟨.hbm, 407, rfl⟩
abbrev main_cst_92 : Ref sig .tc := ⟨.hbm, 408, rfl⟩
abbrev main_v302 : Ref sig .tc := ⟨.hbm, 409, rfl⟩
abbrev main_v303 : Ref sig .tc := ⟨.hbm, 410, rfl⟩
abbrev main_v304 : Ref sig .tc := ⟨.hbm, 411, rfl⟩
abbrev main_v305 : Ref sig .tc := ⟨.hbm, 412, rfl⟩
abbrev main_cst_93 : Ref sig .tc := ⟨.hbm, 413, rfl⟩
abbrev main_v306 : Ref sig .tc := ⟨.hbm, 414, rfl⟩
abbrev main_v307 : Ref sig .tc := ⟨.hbm, 415, rfl⟩
abbrev main_v308 : Ref sig .tc := ⟨.hbm, 416, rfl⟩
abbrev main_v309 : Ref sig .tc := ⟨.hbm, 417, rfl⟩
abbrev main_cst_94 : Ref sig .tc := ⟨.hbm, 418, rfl⟩
abbrev main_v310 : Ref sig .tc := ⟨.hbm, 419, rfl⟩
abbrev main_v311 : Ref sig .tc := ⟨.hbm, 420, rfl⟩
abbrev main_v312 : Ref sig .tc := ⟨.hbm, 421, rfl⟩
abbrev main_v313 : Ref sig .tc := ⟨.hbm, 422, rfl⟩
abbrev main_cst_95 : Ref sig .tc := ⟨.hbm, 423, rfl⟩
abbrev main_v314 : Ref sig .tc := ⟨.hbm, 424, rfl⟩
abbrev main_v315 : Ref sig .tc := ⟨.hbm, 425, rfl⟩
abbrev main_v316 : Ref sig .tc := ⟨.hbm, 426, rfl⟩
abbrev main_v317 : Ref sig .tc := ⟨.hbm, 427, rfl⟩
abbrev main_cst_96 : Ref sig .tc := ⟨.hbm, 428, rfl⟩
abbrev main_v318 : Ref sig .tc := ⟨.hbm, 429, rfl⟩
abbrev main_v319 : Ref sig .tc := ⟨.hbm, 430, rfl⟩
abbrev main_v320 : Ref sig .tc := ⟨.hbm, 431, rfl⟩
abbrev main_v321 : Ref sig .tc := ⟨.hbm, 432, rfl⟩
abbrev main_cst_97 : Ref sig .tc := ⟨.hbm, 433, rfl⟩
abbrev main_v322 : Ref sig .tc := ⟨.hbm, 434, rfl⟩
abbrev main_v323 : Ref sig .tc := ⟨.hbm, 435, rfl⟩
abbrev main_v324 : Ref sig .tc := ⟨.hbm, 436, rfl⟩
abbrev main_v325 : Ref sig .tc := ⟨.hbm, 437, rfl⟩
abbrev main_v326 : Ref sig .tc := ⟨.hbm, 438, rfl⟩
abbrev main_c_98 : Ref sig .tc := ⟨.hbm, 439, rfl⟩
abbrev main_v327 : Ref sig .tc := ⟨.hbm, 440, rfl⟩
abbrev main_c_99 : Ref sig .tc := ⟨.hbm, 441, rfl⟩
abbrev main_call5_v0 : Ref sig .tc := ⟨.hbm, 442, rfl⟩
abbrev main_call5_v1 : Ref sig .tc := ⟨.hbm, 443, rfl⟩
abbrev main_v328 : Ref sig .tc := ⟨.hbm, 444, rfl⟩
abbrev main_c_100 : Ref sig .tc := ⟨.hbm, 445, rfl⟩
abbrev main_v329 : Ref sig .tc := ⟨.hbm, 446, rfl⟩
abbrev main_v330 : Ref sig .tc := ⟨.hbm, 447, rfl⟩
abbrev main_c_101 : Ref sig .tc := ⟨.hbm, 448, rfl⟩
abbrev main_v331 : Ref sig .tc := ⟨.hbm, 449, rfl⟩
abbrev main_v332 : Ref sig .tc := ⟨.hbm, 450, rfl⟩
abbrev main_v333 : Ref sig .tc := ⟨.hbm, 451, rfl⟩
abbrev main_v334 : Ref sig .tc := ⟨.hbm, 452, rfl⟩
abbrev main_c_102 : Ref sig .tc := ⟨.hbm, 453, rfl⟩
abbrev main_v335 : Ref sig .tc := ⟨.hbm, 454, rfl⟩
abbrev main_v336 : Ref sig .tc := ⟨.hbm, 455, rfl⟩
abbrev main_v337 : Ref sig .tc := ⟨.hbm, 456, rfl⟩
abbrev main_cst_103 : Ref sig .tc := ⟨.hbm, 457, rfl⟩
abbrev main_v338 : Ref sig .tc := ⟨.hbm, 458, rfl⟩
abbrev main_v339 : Ref sig .tc := ⟨.hbm, 459, rfl⟩
abbrev main_v340 : Ref sig .tc := ⟨.hbm, 460, rfl⟩
abbrev main_v341 : Ref sig .tc := ⟨.hbm, 461, rfl⟩
abbrev main_cst_104 : Ref sig .tc := ⟨.hbm, 462, rfl⟩
abbrev main_v342 : Ref sig .tc := ⟨.hbm, 463, rfl⟩
abbrev main_cst_105 : Ref sig .tc := ⟨.hbm, 464, rfl⟩
abbrev main_v343 : Ref sig .tc := ⟨.hbm, 465, rfl⟩
abbrev main_cst_106 : Ref sig .tc := ⟨.hbm, 466, rfl⟩
abbrev main_v344 : Ref sig .tc := ⟨.hbm, 467, rfl⟩
abbrev main_cst_107 : Ref sig .tc := ⟨.hbm, 468, rfl⟩
abbrev main_v345 : Ref sig .tc := ⟨.hbm, 469, rfl⟩
abbrev main_v346 : Ref sig .tc := ⟨.hbm, 470, rfl⟩
abbrev main_v347 : Ref sig .tc := ⟨.hbm, 471, rfl⟩
abbrev main_cst_108 : Ref sig .tc := ⟨.hbm, 472, rfl⟩
abbrev main_v348 : Ref sig .tc := ⟨.hbm, 473, rfl⟩

abbrev nD : Nat := 1
abbrev τ : Topo := Topo.v7x

variable {F : FTy → Type} [FloatOps F]
-- ==== Proof.Trip.lean ====
/-
  One trip of the kernel's loop as a plain function of the two arrays. The trip reads three consecutive slabs of each
  array, forms from them the high four and the low five bits of the nine-bit patterns of three directions, and adds one
  product of indicator matrices per direction and array to the three running tables.
-/
module

public import proofs.«01_k».proof.Proof.Gen.KernelIdeal.Frame

@[expose] public section

set_option maxRecDepth 16384

noncomputable section

namespace Cert.Pat

open Idealize.ShloMosaic Idealize.ShloMosaic.TcCoe Cert.KernelIdeal Cert.KernelIdeal.Gen

variable {F : FTy → Type} [FloatOps F]

/-- A field over the batch and the two trailing axes. -/
abbrev Fld (F : FTy → Type) := FVec F S2x128x128 .bf16

/-- The slab of an array that starts at the offsets `off`, as the bits `threshold ≤ value`. -/
def slab (x : Vec F S2x128x128x128 .f32) (off : Fin 4 → Nat)
    (h : ∀ a, off a + S2x1x128x128.size a ≤ S2x128x128x128.size a) : Fld F :=
  k0_pay7 (View.ld x (Rect.unit (s := S2x128x128x128) off S2x1x128x128.size h))

/-- `8 p + 4 q + 2 r + s`, entry by entry. -/
def hi4 (p q r s : Fld F) : Fld F :=
  addf (addf (addf (mulf (broadcast S2x128x128 (Scalar.ofBits .bf16 0x4100#16)) p)
    (mulf (broadcast S2x128x128 (Scalar.ofBits .bf16 0x4080#16)) q))
    (mulf (broadcast S2x128x128 (Scalar.ofBits .bf16 0x4000#16)) r)) s

/-- `16 p + 8 q + 4 r + 2 s + t`, entry by entry. -/
def lo5 (p q r s t : Fld F) : Fld F :=
  addf (addf (addf (addf (mulf (broadcast S2x128x128 (Scalar.ofBits .bf16 0x4180#16)) p)
    (mulf (broadcast S2x128x128 (Scalar.ofBits .bf16 0x4100#16)) q))
    (mulf (broadcast S2x128x128 (Scalar.ofBits .bf16 0x4080#16)) r))
    (mulf (broadcast S2x128x128 (Scalar.ofBits .bf16 0x4000#16)) s)) t

/-- A field laid out as one row of 32768 entries. -/
def row (x : Fld F) : FVec F S1x32768 .bf16 :=
  shapeCast S1x32768 (shapeCast S1x32768 x shapeCasts_S2x128x128_S1x32768) shapeCasts_S1x32768_S1x32768

/-- Where the field `v` holds the row number, of 32 rows: `one` there, `zero` elsewhere. -/
def ind32 (v1 : FVec F S32x32768 .bf16) (one zero : F .bf16) (v : Fld F) : FVec F S32x32768 .bf16 :=
  select (cmpf .oeq (broadcastTo S32x32768 (row v) broadcasts_S1x32768_S32x32768) v1)
    (broadcast S32x32768 one) (broadcast S32x32768 zero)

/-- Where the field `a` holds the row number, of 16 rows: `sgn` there, `zero` elsewhere. -/
def ind16 (v3 : FVec F S16x32768 .bf16) (sgn zero : F .bf16) (a : Fld F) : FVec F S16x32768 .bf16 :=
  select (cmpf .oeq (broadcastTo S16x32768 (row a) broadcasts_S1x32768_S16x32768) v3)
    (broadcast S16x32768 sgn) (broadcast S16x32768 zero)

/-- A table after the pairs (low bits `v`, high bits `a`) of one field have been counted into it with weight `sgn`. -/
def accum (v1 : FVec F S32x32768 .bf16) (v3 : FVec F S16x32768 .bf16) (one zero sgn : F .bf16)
    (acc : FVec F S32x16 .f32) (v a : Fld F) : FVec F S32x16 .f32 :=
  addf acc (matmul dot_S32x32768_S16x32768_S32x16_1_1_0_0_n_n none (ind32 v1 one zero v) (ind16 v3 sgn zero a)
    (constant S32x16 .f32 0x00000000#32))

/-- High bits of the patterns inside one slab. -/
def hiXY (z : Fld F) : Fld F := hi4 z (k0_pay12 z) (k0_pay13 z) (k0_pay14 z)
/-- Low bits of the patterns inside one slab. -/
def loXY (z : Fld F) : Fld F :=
  lo5 (k0_pay12 (k0_pay14 z)) (k0_pay13 (k0_pay14 z)) (k0_pay15 z) (k0_pay12 (k0_pay15 z)) (k0_pay13 (k0_pay15 z))
/-- High bits of the patterns across slabs and along the last axis. -/
def hiYZ (z0 z1 : Fld F) : Fld F := hi4 z0 (k0_pay12 z0) (k0_pay13 z0) z1
/-- Low bits of the patterns across slabs and along the last axis. -/
def loYZ (z1 z2 : Fld F) : Fld F := lo5 (k0_pay12 z1) (k0_pay13 z1) z2 (k0_pay12 z2) (k0_pay13 z2)
/-- High bits of the patterns across slabs and along the middle axis. -/
def hiZX (z0 z1 : Fld F) : Fld F := hi4 z0 (k0_pay14 z0) (k0_pay15 z0) z1
/-- Low bits of the patterns across slabs and along the middle axis. -/
def loZX (z1 z2 : Fld F) : Fld F := lo5 (k0_pay14 z1) (k0_pay15 z1) z2 (k0_pay14 z2) (k0_pay15 z2)

/-- Low bits `v` where the window lies inside the slab, an unused value elsewhere. -/
def keep (mask spare v : Fld F) : Fld F := addf (mulf v mask) spare
/-- Low bits `v` where the trip is not one of the last two, an unused value elsewhere. -/
def keepZ (c0 : BitVec 32) (k : Fin k0_t1_loop.trips) (v : Fld F) : Fld F :=
  addf (mulf v (broadcast S2x128x128 (k0_pay5 c0 1#32 k))) (broadcast S2x128x128 (k0_pay6 c0 1#32 k))

/-- The slab of trip `k` itself. -/
abbrev slab0 (x : Vec F S2x128x128x128 .f32) (k : Fin k0_t1_loop.trips) : Fld F := slab x (k0_off1 k) (k0_off1_inb k)
/-- The slab one further on. -/
abbrev slab1 (x : Vec F S2x128x128x128 .f32) (k : Fin k0_t1_loop.trips) : Fld F := slab x (k0_off2 k 1#32) (k0_off2_inb k 0)
/-- The slab two further on. -/
abbrev slab2 (x : Vec F S2x128x128x128 .f32) (k : Fin k0_t1_loop.trips) : Fld F := slab x (k0_off2 k 2#32) (k0_off2_inb k 1)

/-- What one trip makes of the three tables. -/
def tripV (v1 : FVec F S32x32768 .bf16) (v3 : FVec F S16x32768 .bf16) (v14 v20 v26 v30 v34 v38 : Fld F)
    (one zero : F .bf16) (c0 : BitVec 32) (x y : Vec F S2x128x128x128 .f32) (k : Fin k0_t1_loop.trips)
    (acc : FVec F S32x16 .f32 × FVec F S32x16 .f32 × FVec F S32x16 .f32) :
    FVec F S32x16 .f32 × FVec F S32x16 .f32 × FVec F S32x16 .f32 :=
  let add := accum v1 v3 one zero (Scalar.ofBits .bf16 0x3F80#16)
  let sub := accum v1 v3 one zero (Scalar.ofBits .bf16 0xBF80#16)
  (sub (add acc.1 (keep v14 v30 (loXY (slab0 x k))) (hiXY (slab0 x k)))
      (keep v14 v30 (loXY (slab0 y k))) (hiXY (slab0 y k)),
   sub (add acc.2.1 (keepZ c0 k (keep v20 v34 (loYZ (slab1 x k) (slab2 x k)))) (hiYZ (slab0 x k) (slab1 x k)))
      (keepZ c0 k (keep v20 v34 (loYZ (slab1 y k) (slab2 y k)))) (hiYZ (slab0 y k) (slab1 y k)),
   sub (add acc.2.2 (keepZ c0 k (keep v26 v38 (loZX (slab1 x k) (slab2 x k)))) (hiZX (slab0 x k) (slab1 x k)))
      (keepZ c0 k (keep v26 v38 (loZX (slab1 y k) (slab2 y k)))) (hiZX (slab0 y k) (slab1 y k)))

variable [Named F]

/-- The trip the run found is `tripV`, the arrays read through the two staging buffers. -/
theorem tripR_eq (𝒱 : Variants) (c : Dev nD) (bd : Option 𝒱.V) (arg0 : Memref sig .tc .vmem S2x128x128x128 .f32) (harg0 : arg0.IsWhole) (arg1 : Memref sig .tc .vmem S2x128x128x128 .f32) (harg1 : arg1.IsWhole) (arg2 : Memref sig .tc .vmem S1x1 .f32) (harg2 : arg2.IsWhole)
    (v1 : FVec F S32x32768 .bf16) (v3 : FVec F S16x32768 .bf16) (v14 v20 v26 v30 v34 v38 : Fld F) (one zero : F .bf16)
    (c0 : BitVec 32) (x y : Vec F S2x128x128x128 .f32) (k : Fin k0_t1_loop.trips)
    (acc : FVec F S32x16 .f32 × FVec F S32x16 .f32 × FVec F S32x16 .f32) :
    tripR_k0_t1 𝒱 c bd arg0 harg0 arg1 harg1 arg2 harg2 v1 v3 v14 v20 v26 v30 v34 v38 one zero c0
        (harg0.unread x) (harg1.unread y) k acc
      = tripV v1 v3 v14 v20 v26 v30 v34 v38 one zero c0 x y k acc := by
  have h0 : x = arg0.view.read (Elt F) (harg0.unread x) := (harg0.read_unread x).symm
  have h1 : y = arg1.view.read (Elt F) (harg1.unread y) := (harg1.read_unread y).symm
  generalize harg0.unread x = X at *
  generalize harg1.unread y = Y at *
  subst h0 h1
  unfold tripR_k0_t1 trip_k0_t1
  rfl

end Cert.Pat

end
-- ==== Proof.KRun.lean ====
/-
  The kernel's run, read at its result: the tables after the 128 trips of the loop, squared, summed and scaled.
-/
module

public import proofs.«01_k».proof.Proof.Trip
public import Idealize.ShloMosaic.Lib.Pipeline.Value
public import Idealize.ShloMosaic.Lib.StableHlo.Run

@[expose] public section

set_option maxRecDepth 16384

noncomputable section

namespace Cert.Pat

open Idealize.ShloMosaic Idealize.ShloMosaic.TcCoe Cert.KernelIdeal Cert.KernelIdeal.Gen Idealize.SL.Sem

variable {F : FTy → Type} [FloatOps F] [Named F]

/-- The three tables of one state of the loop. -/
abbrev Tabs (F : FTy → Type) := FVec F S32x16 .f32 × FVec F S32x16 .f32 × FVec F S32x16 .f32

/-- One trip, at the constants the kernel runs it with. -/
def trip (x y : Vec F S2x128x128x128 .f32) (k : Fin k0_t1_loop.trips) (acc : Tabs F) : Tabs F :=
  tripV k0_pay53 k0_pay54 k0_pay55 k0_pay56 k0_pay57 k0_pay58 k0_pay59 k0_pay60
    (Scalar.ofBits .bf16 0x3F80#16) (Scalar.ofBits .bf16 0x0000#16) 0#32 x y k acc

/-- The tables before trip `n`: zero at first, then one trip after another. -/
def tabs (x y : Vec F S2x128x128x128 .f32) : ℕ → Tabs F
  | 0 => (k0_pay61, k0_pay61, k0_pay61)
  | n + 1 => if h : n < k0_t1_loop.trips then trip x y ⟨n, h⟩ (tabs x y n) else tabs x y n

/-- The number the kernel stores. -/
def kout (x y : Vec F S2x128x128x128 .f32) : FVec F S1x1 .f32 :=
  k0_pay3 (tabs x y 128).1 (tabs x y 128).2.1 (tabs x y 128).2.2

/-- The offsets of a whole two-dimensional buffer. -/
theorem two_zeros : (![0, 0] : Fin 2 → Nat) = fun _ => 0 := funext fun a => by fin_cases a <;> rfl

/-- The loop's state before trip `n` is `tabs`. -/
theorem state_eq (c : Dev nD) (a1 : Memref sig .tc .vmem S2x128x128x128 .f32) (h1 : a1.IsWhole)
    (a2 : Memref sig .tc .vmem S2x128x128x128 .f32) (h2 : a2.IsWhole) (a3 : Memref sig .tc .vmem S1x1 .f32) (h3 : a3.IsWhole)
    (x y : Vec F S2x128x128x128 .f32) : ∀ n : ℕ, n ≤ k0_t1_loop.trips →
      st_k0_t1 Variants.none c none a1 h1 a2 h2 a3 h3 k0_pay53 k0_pay54 k0_pay55 k0_pay56 k0_pay57 k0_pay58 k0_pay59
          k0_pay60 (Scalar.ofBits .bf16 0x3F80#16) (Scalar.ofBits .bf16 0x0000#16) 0#32 (h1.unread x) (h2.unread y)
          (k0_pay61, k0_pay61, k0_pay61) n = tabs x y n
  | 0, _ => st_k0_t1_zero ..
  | n + 1, hn => by
    have h : n < k0_t1_loop.trips := hn
    rw [st_k0_t1_succ Variants.none c none a1 h1 a2 h2 a3 h3 _ _ _ _ _ _ _ _ _ _ _ _ _ _ ⟨n, h⟩,
      state_eq c a1 h1 a2 h2 a3 h3 x y n (Nat.le_of_lt h), tripR_eq, tabs, dif_pos h]
    rfl

/-- The body leaves `kout` of its two input blocks in the output's buffer. -/
theorem body_out (c : Dev nD) (a1 : Memref sig .tc .vmem S2x128x128x128 .f32) (h1 : a1.IsWhole)
    (a2 : Memref sig .tc .vmem S2x128x128x128 .f32) (h2 : a2.IsWhole) (a3 : Memref sig .tc .vmem S1x1 .f32) (h3 : a3.IsWhole)
    (x y : Vec F S2x128x128x128 .f32) : out0_A_2 c a1 h1 a2 h2 a3 h3 x y = kout x y := by
  unfold out0_A_2
  rw [View.read_writes_eq_canon _ _ _ (cover0_A_2 c a1 h1 a2 h2 a3 h3 x y)]
  unfold kernelRun0_A
  dsimp only
  rw [View.canon_unit_zero two_zeros]
  have h := state_eq c a1 h1 a2 h2 a3 h3 x y 128 (by decide)
  have ht : Scf.trips (0#32) (Scalar.addi 0#32 128#32) 1#32 = 128 := by decide
  unfold kout
  rw [ht, ← h]
  rfl

variable (m : (ℓ : Loc nD τ sig) → Buf (Elt F) ℓ) (ρ : Dev nD → PrngReg)

/-- The first window's only block starts at zero. -/
theorem zero4 (t : Fin cfg0.N) : (fun a => win0_0.index t a * main_arg0.ty.shape.size a) = fun _ => 0 := by
  rw [fin_N0 t]; exact funext fun a => by fin_cases a <;> decide

/-- The block of the first window is the whole first array. -/
theorem blk0 (c : Dev nD) (t : Fin cfg0.N) : iblk m c 0 t = m ((c : Thread nD τ).loc main_arg0) :=
  Memref.read_access_unit_zero (Elt F) main_arg0 (zero4 t) (fun a => by rw [congrFun (zero4 t) a]; simp)
    (m ((c : Thread nD τ).loc main_arg0))

/-- The second window's only block starts at zero. -/
theorem zero4' (t : Fin cfg0.N) : (fun a => win0_1.index t a * main_arg1.ty.shape.size a) = fun _ => 0 := by
  rw [fin_N0 t]; exact funext fun a => by fin_cases a <;> decide

/-- The block of the second window is the whole second array. -/
theorem blk1 (c : Dev nD) (t : Fin cfg0.N) : iblk m c 1 t = m ((c : Thread nD τ).loc main_arg1) :=
  Memref.read_access_unit_zero (Elt F) main_arg1 (zero4' t) (fun a => by rw [congrFun (zero4' t) a]; simp)
    (m ((c : Thread nD τ).loc main_arg1))

/-- The number the kernel stores, from the launch memory. -/
abbrev kres (c : Dev nD) : FVec F S1x1 .f32 :=
  kout (m ((c : Thread nD τ).loc main_arg0)) (m ((c : Thread nD τ).loc main_arg1))

/-- The one step's output is that number. -/
theorem outs_eq (c : Dev nD) (t : Fin cfg0.N) : outsAt0 m c t = kres m c := by
  unfold outsAt0
  rw [body_out, blk0, blk1]

/-- The result window's only block starts at zero. -/
theorem zero2 : (fun a => win0_2.index t0_0 a * main_call0_v0.ty.shape.size a) = fun _ => 0 :=
  funext fun a => by fin_cases a <;> decide

/-- The one write-back writes that number. -/
theorem flushed_eq (c : Dev nD) (t : Fin cfg0.N) :
    (dats m 0 c).flushed 2 t = ((cfg0.win 2).blk t).view.read (Elt F) (kres m c) := by
  obtain rfl : t = t0_0 := fin_N0 t
  show (cfg0.win 2).cut (grid0.coords t0_0) ((dats m 0 c).after 2 t0_0) = _
  rw [after0_2, outs_eq]
  exact (Memref.read_access_unit_zero (Elt F) main_call0_v0 zero2 (fun a => by rw [congrFun zero2 a]; simp) (kres m c)).symm

/-- So the region's result array holds it. -/
theorem final_arr (c : Dev nD) : (dats m 0 c).arrAt 2 cfg0.N = kres m c :=
  (dats m 0 c).arrAt_eq_of_cover 2 (kres m c) (fun t _ => flushed_eq m c t) fun i =>
    ⟨t0_0, flush0_2 t0_0, by
      show i ∈ ((View.whole main_call0_v0).slice (win0_2.rect t0_0)).set
      rw [View.set_slice_whole, Rect.mem_set_unit]
      intro a
      have h0 : (i 0 : Nat) < 1 := (i 0).isLt
      have h1 : (i 1 : Nat) < 1 := (i 1).isLt
      match a with
      | ⟨0, _⟩ => show win0_2.index t0_0 0 * win0_2.size 0 ≤ (i 0 : Nat) ∧ (i 0 : Nat) < win0_2.index t0_0 0 * win0_2.size 0 + win0_2.xsize (grid0.coords t0_0) 0
                  rw [show win0_2.index t0_0 0 * win0_2.size 0 = 0 from by decide +kernel, show win0_2.xsize (grid0.coords t0_0) 0 = 1 from by decide +kernel]; omega
      | ⟨1, _⟩ => show win0_2.index t0_0 1 * win0_2.size 1 ≤ (i 1 : Nat) ∧ (i 1 : Nat) < win0_2.index t0_0 1 * win0_2.size 1 + win0_2.xsize (grid0.coords t0_0) 1
                  rw [show win0_2.index t0_0 1 * win0_2.size 1 = 0 from by decide +kernel, show win0_2.xsize (grid0.coords t0_0) 1 = 1 from by decide +kernel]; omega⟩

/-- The host's reshape after the region makes a scalar of it. -/
theorem tail_eq (c : Dev nD) :
    Pipeline.afterTail₀ cfgs (dats m) 0 (V0 m) [hostOps1] c main_v0 = shapeCast S_ (kres m c) shapeCasts_S1x1_S_ := by
  unfold Pipeline.afterTail₀
  simp only [List.flatten_cons, List.flatten_nil, List.append_nil]
  after_results
  erw [Pipeline.withArrays_arr spec0 launch0.win.arr_inj c (V0 m c) (fun w => (dats m 0 c).arrAt w (cfgs 0).N) 2]
  erw [final_arr]
  rfl

/-- The run, read: the scalar result, and the two arguments unchanged. -/
theorem krun : θ_run defs (onTc (τ := τ) (main (F := F))) ⟨m, fun _ => 0, ρ⟩ fun r => ∀ c : Dev nD,
      r.2.mem ((c.tc : Thread nD τ).loc main_v0) = shapeCast S_ (kres m c) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v0 (by decide)).trans (tail_eq m c), ((h c).1 0).trans ((dats m 0 c).arrAt_in 0 rfl _),
      ((h c).1 1).trans ((dats m 0 c).arrAt_in 1 rfl _)⟩) (run_main m ρ)

end Cert.Pat

end
-- ==== Proof.Spec.lean ====
/-
  The mathematics both programs compute, in natural numbers: the bit field of an array, the nine-bit code of a 3 × 3
  window, and the number of windows of one direction with a given code. With it the values of the constants.
-/
module

public import Idealize.ShloMosaic.Lib.Pointwise
public import Idealize.ShloMosaic.Lib.WordArith

@[expose] public section

set_option maxRecDepth 16384

noncomputable section

namespace Cert.Pat

open Idealize.ShloMosaic

/-- A natural number as an extended real. -/
abbrev nr (n : ℕ) : EReal := ((n : ℝ) : EReal)

/-- The threshold of the bits, `1/255` to single precision; its value is never used. -/
abbrev thr : EReal := Ideal.ofBits .f32 0x3B808081#32

/-- An array of the two programs. -/
abbrev Arr := (⟨4, ![2, 128, 128, 128]⟩ : Shape).Idx → EReal

/-- The bit of an array at batch `n` and coordinates `z`, `y`, `w` (taken modulo 128): whether the value reaches the
    threshold. -/
def bit (x : Arr) (n : Fin 2) (z y w : ℕ) : ℕ :=
  if thr ≤ x (ix4 n ⟨z % 128, Nat.mod_lt _ (by decide)⟩ ⟨y % 128, Nat.mod_lt _ (by decide)⟩ ⟨w % 128, Nat.mod_lt _ (by decide)⟩)
  then 1 else 0

/-- A bit is zero or one. -/
theorem bit_le (x : Arr) (n : Fin 2) (z y w : ℕ) : bit x n z y w ≤ 1 := by
  unfold bit; split <;> omega

/-- The high four bits of the code of the window at rows `i…`, columns `j…` of slice `c`. -/
def hiCode (B : Fin 2 → ℕ → ℕ → ℕ → ℕ) (n : Fin 2) (c i j : ℕ) : ℕ :=
  8 * B n c i j + 4 * B n c i (j + 1) + 2 * B n c i (j + 2) + B n c (i + 1) j

/-- The low five bits of that code. -/
def loCode (B : Fin 2 → ℕ → ℕ → ℕ → ℕ) (n : Fin 2) (c i j : ℕ) : ℕ :=
  16 * B n c (i + 1) (j + 1) + 8 * B n c (i + 1) (j + 2) + 4 * B n c (i + 2) j + 2 * B n c (i + 2) (j + 1)
    + B n c (i + 2) (j + 2)

/-- The nine-bit code of the window. -/
def code (B : Fin 2 → ℕ → ℕ → ℕ → ℕ) (n : Fin 2) (c i j : ℕ) : ℕ := 32 * hiCode B n c i j + loCode B n c i j

/-- Five bits are less than 32. -/
theorem loCode_lt (B : Fin 2 → ℕ → ℕ → ℕ → ℕ) (hB : ∀ n c i j, B n c i j ≤ 1) (n : Fin 2) (c i j : ℕ) :
    loCode B n c i j < 32 := by
  have h1 := hB n c (i + 1) (j + 1); have h2 := hB n c (i + 1) (j + 2); have h3 := hB n c (i + 2) j
  have h4 := hB n c (i + 2) (j + 1); have h5 := hB n c (i + 2) (j + 2)
  unfold loCode; omega

/-- Four bits are less than 16. -/
theorem hiCode_lt (B : Fin 2 → ℕ → ℕ → ℕ → ℕ) (hB : ∀ n c i j, B n c i j ≤ 1) (n : Fin 2) (c i j : ℕ) :
    hiCode B n c i j < 16 := by
  have h1 := hB n c i j; have h2 := hB n c i (j + 1); have h3 := hB n c i (j + 2); have h4 := hB n c (i + 1) j
  unfold hiCode; omega

/-- Nine bits are less than 512. -/
theorem code_lt (B : Fin 2 → ℕ → ℕ → ℕ → ℕ) (hB : ∀ n c i j, B n c i j ≤ 1) (n : Fin 2) (c i j : ℕ) :
    code B n c i j < 512 := by
  have := loCode_lt B hB n c i j; have := hiCode_lt B hB n c i j
  unfold code; omega

/-- A code is `32 a + v` exactly when its high bits are `a` and its low bits `v`. -/
theorem code_eq_iff (B : Fin 2 → ℕ → ℕ → ℕ → ℕ) (hB : ∀ n c i j, B n c i j ≤ 1) (n : Fin 2) (c i j a v : ℕ) (hv : v < 32) :
    code B n c i j = 32 * a + v ↔ loCode B n c i j = v ∧ hiCode B n c i j = a := by
  have := loCode_lt B hB n c i j
  unfold code; omega

/-- The windows of slice `c` with the code `k`. -/
def cnt1 (B : Fin 2 → ℕ → ℕ → ℕ → ℕ) (k c : ℕ) : ℕ :=
  ∑ n : Fin 2, ∑ i ∈ Finset.range 126, ∑ j ∈ Finset.range 126, if code B n c i j = k then 1 else 0

/-- The windows of all 128 slices with the code `k`. -/
def cnt (B : Fin 2 → ℕ → ℕ → ℕ → ℕ) (k : ℕ) : ℕ := ∑ c ∈ Finset.range 128, cnt1 B k c

/-- The three directions: the slices run along the first, the middle, the last of the three axes. -/
def dir (x : Arr) : Fin 3 → Fin 2 → ℕ → ℕ → ℕ → ℕ
  | 0 => fun n c i j => bit x n c i j
  | 1 => fun n c i j => bit x n i c j
  | 2 => fun n c i j => bit x n i j c

/-- The entries of a direction are bits. -/
theorem dir_le (x : Arr) (d : Fin 3) (n : Fin 2) (c i j : ℕ) : dir x d n c i j ≤ 1 := by
  match d with
  | 0 => exact bit_le x n c i j
  | 1 => exact bit_le x n i c j
  | 2 => exact bit_le x n i j c

/-- The difference of the two arrays' counts. -/
def gap (x y : Arr) (d : Fin 3) (k : ℕ) : ℝ := (cnt (dir x d) k : ℝ) - (cnt (dir y d) k : ℝ)

/-- The squared differences of one direction, summed over the 512 codes. -/
def sq (x y : Arr) (d : Fin 3) : ℝ := ∑ k : Fin 512, gap x y d k.val * gap x y d k.val

/-- The loss: the mean over the directions of the mean squared difference of the frequencies, per batch and channel. -/
def loss (x y : Arr) : ℝ := (sq x y 0 + sq x y 1 + sq x y 2) / 6495211421775691776

/-! ## Constants

The bit patterns of the two programs' constants, as the numbers they are. -/

theorem c_f32_0 : Ideal.ofBits .f32 0x00000000#32 = ((0 : ℝ) : EReal) := by
  simp [Ideal.ofBits, Ideal.ieee, -EReal.coe_mul]
theorem c_f32_1 : Ideal.ofBits .f32 0x3F800000#32 = ((1 : ℝ) : EReal) := by
  simp [Ideal.ofBits, Ideal.ieee, -EReal.coe_mul]; norm_num
theorem c_f32_2 : Ideal.ofBits .f32 0x40000000#32 = ((2 : ℝ) : EReal) := by
  simp [Ideal.ofBits, Ideal.ieee, -EReal.coe_mul]; norm_num
theorem c_f32_3 : Ideal.ofBits .f32 0x40400000#32 = ((3 : ℝ) : EReal) := by
  simp [Ideal.ofBits, Ideal.ieee, -EReal.coe_mul]; norm_num
theorem c_f32_4 : Ideal.ofBits .f32 0x40800000#32 = ((4 : ℝ) : EReal) := by
  simp [Ideal.ofBits, Ideal.ieee, -EReal.coe_mul]; norm_num
theorem c_f32_8 : Ideal.ofBits .f32 0x41000000#32 = ((8 : ℝ) : EReal) := by
  simp [Ideal.ofBits, Ideal.ieee, -EReal.coe_mul]; norm_num
theorem c_f32_16 : Ideal.ofBits .f32 0x41800000#32 = ((16 : ℝ) : EReal) := by
  simp [Ideal.ofBits, Ideal.ieee, -EReal.coe_mul]; norm_num
theorem c_f32_32 : Ideal.ofBits .f32 0x42000000#32 = ((32 : ℝ) : EReal) := by
  simp [Ideal.ofBits, Ideal.ieee, -EReal.coe_mul]; norm_num
theorem c_f32_33 : Ideal.ofBits .f32 0x42040000#32 = ((33 : ℝ) : EReal) := by
  simp [Ideal.ofBits, Ideal.ieee, -EReal.coe_mul]; norm_num
theorem c_f32_64 : Ideal.ofBits .f32 0x42800000#32 = ((64 : ℝ) : EReal) := by
  simp [Ideal.ofBits, Ideal.ieee, -EReal.coe_mul]; norm_num
theorem c_f32_128 : Ideal.ofBits .f32 0x43000000#32 = ((128 : ℝ) : EReal) := by
  simp [Ideal.ofBits, Ideal.ieee, -EReal.coe_mul]; norm_num
theorem c_f32_256 : Ideal.ofBits .f32 0x43800000#32 = ((256 : ℝ) : EReal) := by
  simp [Ideal.ofBits, Ideal.ieee, -EReal.coe_mul]; norm_num
theorem c_f32_512 : Ideal.ofBits .f32 0x44000000#32 = ((512 : ℝ) : EReal) := by
  simp [Ideal.ofBits, Ideal.ieee, -EReal.coe_mul]; norm_num
theorem c_f32_windows : Ideal.ofBits .f32 0x4A781000#32 = ((4064256 : ℝ) : EReal) := by
  simp [Ideal.ofBits, Ideal.ieee, -EReal.coe_mul]; norm_num
theorem c_bf16_0 : Ideal.ofBits .bf16 0x0000#16 = ((0 : ℝ) : EReal) := by
  simp [Ideal.ofBits, Ideal.ieee, -EReal.coe_mul]
theorem c_bf16_1 : Ideal.ofBits .bf16 0x3F80#16 = ((1 : ℝ) : EReal) := by
  simp [Ideal.ofBits, Ideal.ieee, -EReal.coe_mul]; norm_num
theorem c_bf16_neg : Ideal.ofBits .bf16 0xBF80#16 = ((-1 : ℝ) : EReal) := by
  simp [Ideal.ofBits, Ideal.ieee, -EReal.coe_mul]; norm_num
theorem c_bf16_2 : Ideal.ofBits .bf16 0x4000#16 = ((2 : ℝ) : EReal) := by
  simp [Ideal.ofBits, Ideal.ieee, -EReal.coe_mul]; norm_num
theorem c_bf16_4 : Ideal.ofBits .bf16 0x4080#16 = ((4 : ℝ) : EReal) := by
  simp [Ideal.ofBits, Ideal.ieee, -EReal.coe_mul]; norm_num
theorem c_bf16_8 : Ideal.ofBits .bf16 0x4100#16 = ((8 : ℝ) : EReal) := by
  simp [Ideal.ofBits, Ideal.ieee, -EReal.coe_mul]; norm_num
theorem c_bf16_16 : Ideal.ofBits .bf16 0x4180#16 = ((16 : ℝ) : EReal) := by
  simp [Ideal.ofBits, Ideal.ieee, -EReal.coe_mul]; norm_num
theorem c_bf16_33 : Ideal.ofBits .bf16 0x4204#16 = ((33 : ℝ) : EReal) := by
  simp [Ideal.ofBits, Ideal.ieee, -EReal.coe_mul]; norm_num

/-! ## Sums -/

/-- A sum over the places of a reshaped array is the sum over the places of the array. -/
theorem sum_reshape {M : Type*} [AddCommMonoid M] {s t : Shape} (h : s.ShapeCasts t) (f : s.Idx → M) :
    ∑ j : t.Idx, f (Shape.reshapeEquiv h j) = ∑ i : s.Idx, f i :=
  Fintype.sum_equiv (Shape.reshapeEquiv h) _ _ fun _ => rfl

/-- A sum of 128 terms of which the last two vanish. -/
theorem sum_range_drop2 (f g : ℕ → ℕ) (h : ∀ j < 126, f j = g j) (h1 : f 126 = 0) (h2 : f 127 = 0) :
    ∑ j ∈ Finset.range 128, f j = ∑ j ∈ Finset.range 126, g j := by
  rw [Finset.sum_range_succ, Finset.sum_range_succ, h1, h2, add_zero, add_zero]
  exact Finset.sum_congr rfl fun j hj => h j (Finset.mem_range.1 hj)

/-- A finite sum of reals, read in the extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A small number read as a signed word is itself. -/
theorem word_nr (k : ℕ) (h : k < 2 ^ 31) (φ : FTy) : FloatOps.sitofp (F := Ideal) φ (BitVec.ofNat 32 k) = nr k := by
  show (((BitVec.ofNat 32 k).toInt : ℝ) : EReal) = nr k
  rw [WordArith.toInt_ofNat_small k h, Int.cast_natCast]

end Cert.Pat

end
-- ==== Proof.Field.lean ====
/-
  The fields of one trip over the extended reals, as natural numbers: the slabs, their shifts by one and two places,
  the weighted sums of bits, and the fields with the windows that leave the array marked by 33.
-/
module

public import proofs.«01_k».proof.Proof.Trip
public import proofs.«01_k».proof.Proof.Spec

@[expose] public section

set_option maxRecDepth 16384

noncomputable section

namespace Cert.Pat

open Idealize.ShloMosaic Idealize.ShloMosaic.TcCoe Cert.KernelIdeal Cert.KernelIdeal.Gen

/-- The field `X` holds the natural numbers `f`. -/
def Is (X : Fld Ideal) (f : Fin 2 → ℕ → ℕ → ℕ) : Prop :=
  ∀ (n : Fin 2) (y w : Fin 128), X (ix3 n y w) = nr (f n y.val w.val)

/-- The numbers of a field may be written otherwise, inside the array. -/
theorem Is.congr {X : Fld Ideal} {f g : Fin 2 → ℕ → ℕ → ℕ} (h : Is X f)
    (e : ∀ n y w, y < 128 → w < 128 → f n y w = g n y w) : Is X g :=
  fun n y w => (h n y w).trans (by rw [e n y.val w.val y.isLt w.isLt])

/-- Bits repeat after 128 places along the last axis. -/
theorem bit_mod_w (x : Arr) (n : Fin 2) (z y w : ℕ) : bit x n z y (w % 128) = bit x n z y w := by
  unfold bit; simp only [Nat.mod_mod]

/-- Bits repeat after 128 places along the middle axis. -/
theorem bit_mod_y (x : Arr) (n : Fin 2) (z y w : ℕ) : bit x n z (y % 128) w = bit x n z y w := by
  unfold bit; simp only [Nat.mod_mod]

/-- The slab at `z` holds the bits at `z`. -/
theorem is_slab (x : Vec Ideal S2x128x128x128 .f32) (off : Fin 4 → ℕ) (h) (z : ℕ) (ho : off = ![0, z, 0, 0]) (hz : z < 128) :
    Is (slab x off h) (fun n y w => bit x n z y w) := by
  subst ho
  intro n y w
  pointwise [slab, k0_pay7, View.ld]
  have e : ix4 n ⟨z % 128, Nat.mod_lt _ (by decide)⟩ ⟨y.val % 128, Nat.mod_lt _ (by decide)⟩ ⟨w.val % 128, Nat.mod_lt _ (by decide)⟩
      = ix4 n (⟨z, hz⟩ : Fin 128) y w := by
    refine (ix4_inj ..).2 ⟨rfl, Fin.ext ?_, Fin.ext ?_, Fin.ext ?_⟩
    · exact Nat.mod_eq_of_lt hz
    · exact Nat.mod_eq_of_lt y.isLt
    · exact Nat.mod_eq_of_lt w.isLt
  unfold bit
  rw [e]
  by_cases hc : thr ≤ x (ix4 n (⟨z, hz⟩ : Fin 128) y w)
  · rw [if_pos hc, if_pos hc]; simp
  · rw [if_neg hc, if_neg hc]; simp

section Shifts

variable {X : Fld Ideal} {f : Fin 2 → ℕ → ℕ → ℕ}

/-- The field read one place further along the last axis, cyclically. -/
theorem is_x1 (h : Is X f) (hf : ∀ n y w, f n y (w % 128) = f n y w) : Is (k0_pay12 X) (fun n y w => f n y (w + 1)) := by
  intro n y w
  have hw := w.isLt
  pointwise [k0_pay12]
  by_cases c : w.val < 127
  · rw [dif_pos c, h]; congr 3; simp only [Nat.add_comm]
  · rw [dif_neg c, h, ← hf n y.val (w.val + 1)]; congr 4; simp only; omega

/-- The field read two places further along the last axis, cyclically. -/
theorem is_x2 (h : Is X f) (hf : ∀ n y w, f n y (w % 128) = f n y w) : Is (k0_pay13 X) (fun n y w => f n y (w + 2)) := by
  intro n y w
  have hw := w.isLt
  pointwise [k0_pay13]
  by_cases c : w.val < 126
  · rw [dif_pos c, h]; congr 3; simp only [Nat.add_comm]
  · rw [dif_neg c, h, ← hf n y.val (w.val + 2)]; congr 4; simp only; omega

/-- The field read one place further along the middle axis, cyclically. -/
theorem is_y1 (h : Is X f) (hf : ∀ n y w, f n (y % 128) w = f n y w) : Is (k0_pay14 X) (fun n y w => f n (y + 1) w) := by
  intro n y w
  have hy := y.isLt
  pointwise [k0_pay14]
  by_cases c : y.val < 127
  · rw [dif_pos c, h]; congr 3; simp only [Nat.add_comm]
  · rw [dif_neg c, h, ← hf n (y.val + 1) w.val]; congr 4; simp only; omega

/-- The field read two places further along the middle axis, cyclically. -/
theorem is_y2 (h : Is X f) (hf : ∀ n y w, f n (y % 128) w = f n y w) : Is (k0_pay15 X) (fun n y w => f n (y + 2) w) := by
  intro n y w
  have hy := y.isLt
  pointwise [k0_pay15]
  by_cases c : y.val < 126
  · rw [dif_pos c, h]; congr 3; simp only [Nat.add_comm]
  · rw [dif_neg c, h, ← hf n (y.val + 2) w.val]; congr 4; simp only; omega

end Shifts

section Sums

variable {p q r s t : Fld Ideal} {a b c d e : Fin 2 → ℕ → ℕ → ℕ}

/-- The four-bit weighted sum, as natural numbers. -/
theorem is_hi4 (hp : Is p a) (hq : Is q b) (hr : Is r c) (hs : Is s d) :
    Is (hi4 p q r s) (fun n y w => 8 * a n y w + 4 * b n y w + 2 * c n y w + d n y w) := by
  intro n y w
  pointwise [hi4]
  rw [hp, hq, hr, hs, c_bf16_8, c_bf16_4, c_bf16_2]
  push_cast
  rfl

/-- The five-bit weighted sum, as natural numbers. -/
theorem is_lo5 (hp : Is p a) (hq : Is q b) (hr : Is r c) (hs : Is s d) (ht : Is t e) :
    Is (lo5 p q r s t) (fun n y w => 16 * a n y w + 8 * b n y w + 4 * c n y w + 2 * d n y w + e n y w) := by
  intro n y w
  pointwise [lo5]
  rw [hp, hq, hr, hs, ht, c_bf16_16, c_bf16_8, c_bf16_4, c_bf16_2]
  push_cast
  rfl

end Sums

/-! ## The marks -/

/-- A number kept or replaced by 33, as a sum computes it. -/
theorem mark (k : ℕ) (p : Prop) [Decidable p] (c33 : EReal) (h33 : c33 = ((33 : ℝ) : EReal)) :
    (if p then nr k else 0) + (1 - (if p then 1 else 0)) * c33 = nr (if p then k else 33) := by
  subst h33
  by_cases hp : p
  · simp only [if_pos hp]
    rw [show (1 - 1 : EReal) = 0 from by rw [← EReal.coe_one, ← EReal.coe_sub]; norm_num, zero_mul, add_zero]
  · simp only [if_neg hp, sub_zero, one_mul, zero_add]
    show ((33 : ℝ) : EReal) = (((33 : ℕ) : ℝ) : EReal)
    rw [Nat.cast_ofNat]

/-- A comparison of two small numbers as words. -/
theorem slt126 (w : Fin 128) : IntOp.cmpi .slt (BitVec.ofNat 32 w.val) 126#32 = BitVec.ofBool (decide (w.val < 126)) := by
  revert w; decide +kernel

/-- A trip's number compared with the last one that leaves room for three slabs. -/
theorem sle125 (k : Fin k0_t1_loop.trips) :
    Scalar.cmpi .sle (Scf.iv 0#32 1#32 k.val) 125#32 = BitVec.ofBool (decide (k.val < 126)) := by
  revert k; decide +kernel

/-- A selection by a decided bit. -/
theorem select_bool {α : Type} (p : Prop) [Decidable p] (a b : α) :
    Scalar.select (BitVec.ofBool (decide p)) a b = if p then a else b := by
  by_cases h : p <;> simp [h, Scalar.select]

/-- The conjunction of two decided bits. -/
theorem and_bool (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

/-- Windows inside a slab: both axes must leave room for three places. -/
theorem is_keepXY {v : Fld Ideal} {f : Fin 2 → ℕ → ℕ → ℕ} (h : Is v f) :
    Is (keep (k0_pay55 (F := Ideal)) k0_pay58 v) (fun n y w => if w < 126 ∧ y < 126 then f n y w else 33) := by
  intro n y w
  pointwise [keep, k0_pay55, k0_pay58]
  rw [h, slt126, slt126, and_bool, select_bool, select_bool]
  exact mark (f n y.val w.val) (w.val < 126 ∧ y.val < 126) _ c_bf16_33

/-- Windows along the last axis must leave room for three places there. -/
theorem is_keepX {v : Fld Ideal} {f : Fin 2 → ℕ → ℕ → ℕ} (h : Is v f) :
    Is (keep (k0_pay56 (F := Ideal)) k0_pay59 v) (fun n y w => if w < 126 then f n y w else 33) := by
  intro n y w
  pointwise [keep, k0_pay56, k0_pay59]
  rw [h, slt126, select_bool, select_bool]
  exact mark (f n y.val w.val) (w.val < 126) _ c_bf16_33

/-- Windows along the middle axis must leave room for three places there. -/
theorem is_keepY {v : Fld Ideal} {f : Fin 2 → ℕ → ℕ → ℕ} (h : Is v f) :
    Is (keep (k0_pay57 (F := Ideal)) k0_pay60 v) (fun n y w => if y < 126 then f n y w else 33) := by
  intro n y w
  pointwise [keep, k0_pay57, k0_pay60]
  rw [h, slt126, select_bool, select_bool]
  exact mark (f n y.val w.val) (y.val < 126) _ c_bf16_33

/-- Windows across slabs: the trip must leave room for three slabs. -/
theorem is_keepZ {v : Fld Ideal} {f : Fin 2 → ℕ → ℕ → ℕ} (h : Is v f) (k : Fin k0_t1_loop.trips) :
    Is (keepZ 0#32 k v) (fun n y w => if k.val < 126 then f n y w else 33) := by
  intro n y w
  pointwise [keepZ, k0_pay5, k0_pay6, k0_pay4]
  rw [h, sle125, select_bool, select_bool]
  exact mark (f n y.val w.val) (k.val < 126) _ c_f32_33

end Cert.Pat

end
-- ==== Proof.Accum.lean ====
/-
  One field counted into a table: the product of two one-hot matrices adds, at row `i` and column `j`, the number of
  places whose low bits are `i` and whose high bits are `j`.
-/
module

public import proofs.«01_k».proof.Proof.Field

@[expose] public section

set_option maxRecDepth 16384

noncomputable section

namespace Cert.Pat

open Idealize.ShloMosaic Idealize.ShloMosaic.TcCoe Cert.KernelIdeal Cert.KernelIdeal.Gen

/-- The places of a field whose low bits are `i` and whose high bits are `j`. -/
def tally (f g : Fin 2 → ℕ → ℕ → ℕ) (i j : ℕ) : ℕ :=
  ∑ n : Fin 2, ∑ y ∈ Finset.range 128, ∑ w ∈ Finset.range 128, if f n y w = i ∧ g n y w = j then 1 else 0

/-- The table `T` holds the reals `G`. -/
def IsT (T : FVec Ideal S32x16 .f32) (G : ℕ → ℕ → ℝ) : Prop :=
  ∀ (i : Fin 32) (j : Fin 16), T (ix2 i j) = ((G i.val j.val : ℝ) : EReal)

/-- A sum over the places of a row of 32768, by batch and the two axes. -/
theorem sum_row {M : Type*} [AddCommMonoid M] (F : Fin 2 → Fin 128 → Fin 128 → M) :
    (∑ p : Fin 32768, F ⟨p.val / 16384, by omega⟩ ⟨p.val / 128 % 128, by omega⟩ ⟨p.val % 128, by omega⟩)
      = ∑ n, ∑ y, ∑ w, F n y w := by
  rw [Fin.sum_univ_tiles 2 16384 (by norm_num)]
  refine Finset.sum_congr rfl fun n _ => ?_
  rw [Fin.sum_univ_tiles 128 128 (by norm_num)]
  refine Finset.sum_congr rfl fun y _ => Finset.sum_congr rfl fun w _ => ?_
  congr 1 <;> exact Fin.ext (by simp only; omega)

/-- The row numbers of the one-hot matrices. -/
theorem rows32 (i : Fin 32) (p : Fin 32768) : k0_pay53 (F := Ideal) (ix2 i p) = nr i.val := by
  pointwise [k0_pay53]
  exact word_nr _ (by omega) _

/-- The same for the sixteen rows. -/
theorem rows16 (i : Fin 16) (p : Fin 32768) : k0_pay54 (F := Ideal) (ix2 i p) = nr i.val := by
  pointwise [k0_pay54]
  exact word_nr _ (by omega) _

/-- The first one-hot matrix, entry by entry. -/
theorem ind32_at {v : Fld Ideal} {f : Fin 2 → ℕ → ℕ → ℕ} (hv : Is v f) (one zero : EReal) (i : Fin 32) (p : Fin 32768) :
    ind32 k0_pay53 one zero v (ix2 i p) = if f ⟨p.val / 16384, by omega⟩ (p.val / 128 % 128) (p.val % 128) = i.val then one else zero := by
  pointwise [ind32, row]
  rw [hv, rows32]
  simp only [nr, EReal.coe_eq_coe_iff, Nat.cast_inj]

/-- The second one-hot matrix, entry by entry. -/
theorem ind16_at {v : Fld Ideal} {f : Fin 2 → ℕ → ℕ → ℕ} (hv : Is v f) (one zero : EReal) (i : Fin 16) (p : Fin 32768) :
    ind16 k0_pay54 one zero v (ix2 i p) = if f ⟨p.val / 16384, by omega⟩ (p.val / 128 % 128) (p.val % 128) = i.val then one else zero := by
  pointwise [ind16, row]
  rw [hv, rows16]
  simp only [nr, EReal.coe_eq_coe_iff, Nat.cast_inj]

/-- Counting a field into a table with weight `s`. -/
theorem is_accum {T : FVec Ideal S32x16 .f32} {G : ℕ → ℕ → ℝ} (hT : IsT T G) {v a : Fld Ideal} {f g : Fin 2 → ℕ → ℕ → ℕ}
    (hv : Is v f) (ha : Is a g) (one zero sgn : EReal) (s : ℝ) (h1 : one = 1) (h0 : zero = 0) (hs : sgn = (s : EReal)) :
    IsT (accum k0_pay53 k0_pay54 one zero sgn T v a) (fun i j => G i j + s * (tally f g i j : ℝ)) := by
  intro i j
  pointwise [accum]
  rw [hT]
  have e : ∀ p : Fin 32768, ind32 k0_pay53 one zero v (ix2 i p) * ind16 k0_pay54 sgn zero a (ix2 j p)
      = ((s * ((if f ⟨p.val / 16384, by omega⟩ (p.val / 128 % 128) (p.val % 128) = i.val
          ∧ g ⟨p.val / 16384, by omega⟩ (p.val / 128 % 128) (p.val % 128) = j.val then 1 else 0 : ℕ) : ℝ) : ℝ) : EReal) := by
    intro p
    rw [ind32_at hv, ind16_at ha, h1, h0, hs]
    by_cases c : f ⟨p.val / 16384, by omega⟩ (p.val / 128 % 128) (p.val % 128) = i.val <;>
      by_cases d : g ⟨p.val / 16384, by omega⟩ (p.val / 128 % 128) (p.val % 128) = j.val <;> simp [c, d]
  rw [Finset.sum_congr rfl fun p _ => e p, coe_sum, ← EReal.coe_add, ← Finset.mul_sum, ← Nat.cast_sum]
  rw [sum_row fun n y w => if f n y.val w.val = i.val ∧ g n y.val w.val = j.val then 1 else 0]
  unfold tally
  simp only [Finset.sum_range]

end Cert.Pat

end
-- ==== Proof.Share.lean ====
/-
  Counting by trips. What trip `z` adds to a table, for each of the three directions, and that the 128 trips together
  count every window once.
-/
module

public import proofs.«01_k».proof.Proof.Accum

@[expose] public section

set_option maxRecDepth 16384

noncomputable section

namespace Cert.Pat

open Idealize.ShloMosaic

/-- The windows with the code `k` that trip `z` sees, in each of the three directions: those of slice `z`, and those
    whose rows start at `z`. -/
def share (B : Fin 2 → ℕ → ℕ → ℕ → ℕ) (k z : ℕ) : Fin 3 → ℕ
  | 0 => cnt1 B k z
  | 1 => if z < 126 then ∑ n : Fin 2, ∑ c ∈ Finset.range 128, ∑ j ∈ Finset.range 126, if code B n c z j = k then 1 else 0 else 0
  | 2 => if z < 126 then ∑ n : Fin 2, ∑ j ∈ Finset.range 126, ∑ c ∈ Finset.range 128, if code B n c z j = k then 1 else 0 else 0

/-- The shares of the 128 trips make the count. -/
theorem sum_share (B : Fin 2 → ℕ → ℕ → ℕ → ℕ) (k : ℕ) (d : Fin 3) : ∑ z ∈ Finset.range 128, share B k z d = cnt B k := by
  match d with
  | 0 => rfl
  | 1 =>
    refine (sum_range_drop2 (fun z => share B k z 1) (fun z => ∑ n : Fin 2, ∑ c ∈ Finset.range 128, ∑ j ∈ Finset.range 126, if code B n c z j = k then 1 else 0)
      (fun z hz => if_pos hz) rfl rfl).trans ?_
    rw [Finset.sum_comm]
    unfold cnt cnt1
    rw [Finset.sum_comm (s := Finset.range 128) (t := (Finset.univ : Finset (Fin 2)))]
    exact Finset.sum_congr rfl fun n _ => Finset.sum_comm
  | 2 =>
    refine (sum_range_drop2 (fun z => share B k z 2) (fun z => ∑ n : Fin 2, ∑ j ∈ Finset.range 126, ∑ c ∈ Finset.range 128, if code B n c z j = k then 1 else 0)
      (fun z hz => if_pos hz) rfl rfl).trans ?_
    rw [Finset.sum_comm]
    unfold cnt cnt1
    rw [Finset.sum_comm (s := Finset.range 128) (t := (Finset.univ : Finset (Fin 2)))]
    refine Finset.sum_congr rfl fun n _ => ?_
    rw [Finset.sum_comm (s := Finset.range 128)]
    exact Finset.sum_congr rfl fun i _ => Finset.sum_comm

section

variable (B : Fin 2 → ℕ → ℕ → ℕ → ℕ) (hB : ∀ n c i j, B n c i j ≤ 1) (z v a : ℕ) (hv : v < 32)
include hB hv

/-- A place marked by 33 is not counted; any other is counted by its code. -/
theorem marked (p : Prop) [Decidable p] (n : Fin 2) (c i j : ℕ) :
    (if (if p then loCode B n c i j else 33) = v ∧ hiCode B n c i j = a then 1 else 0 : ℕ)
      = if p then (if code B n c i j = 32 * a + v then 1 else 0) else 0 := by
  by_cases hp : p
  · simp only [if_pos hp, code_eq_iff B hB n c i j a v hv]
  · simp only [if_neg hp]
    exact if_neg fun h => by omega

/-- The count inside one slab. -/
theorem tallyXY : tally (fun n y w => if w < 126 ∧ y < 126 then loCode B n z y w else 33) (fun n y w => hiCode B n z y w) v a
    = share B (32 * a + v) z 0 := by
  show _ = cnt1 B (32 * a + v) z
  unfold tally cnt1
  simp only [marked B hB v a hv]
  refine Finset.sum_congr rfl fun n _ => ?_
  refine sum_range_drop2 _ (fun y => ∑ w ∈ Finset.range 126, if code B n z y w = 32 * a + v then 1 else 0) (fun y hy => ?_) ?_ ?_
  · exact sum_range_drop2 _ (fun w => if code B n z y w = 32 * a + v then 1 else 0) (fun w hw => if_pos ⟨hw, hy⟩)
      (if_neg (by omega)) (if_neg (by omega))
  · exact Finset.sum_eq_zero fun w _ => if_neg (by omega)
  · exact Finset.sum_eq_zero fun w _ => if_neg (by omega)

/-- The count across slabs and along the last axis. -/
theorem tallyYZ (C : Fin 2 → ℕ → ℕ → ℕ → ℕ) (hC : ∀ n c i j, C n c i j ≤ 1)
    (e : z < 126 → ∀ n c j, code C n c z j = code B n c z j) :
    tally (fun n y w => if z < 126 then (if w < 126 then loCode C n y z w else 33) else 33) (fun n y w => hiCode C n y z w) v a
    = share B (32 * a + v) z 1 := by
  unfold tally
  by_cases hz : z < 126
  · simp only [if_pos hz, marked C hC v a hv, e hz]
    refine Eq.trans ?_ (if_pos hz).symm
    refine Finset.sum_congr rfl fun n _ => Finset.sum_congr rfl fun y _ => ?_
    exact sum_range_drop2 _ (fun w => if code B n y z w = 32 * a + v then 1 else 0) (fun w hw => if_pos hw)
      (if_neg (by omega)) (if_neg (by omega))
  · simp only [if_neg hz]
    refine Eq.trans ?_ (if_neg hz).symm
    exact Finset.sum_eq_zero fun n _ => Finset.sum_eq_zero fun y _ => Finset.sum_eq_zero fun w _ => if_neg fun h => by omega

/-- The count across slabs and along the middle axis. -/
theorem tallyZX (C : Fin 2 → ℕ → ℕ → ℕ → ℕ) (hC : ∀ n c i j, C n c i j ≤ 1)
    (e : z < 126 → ∀ n c j, code C n c z j = code B n c z j) :
    tally (fun n y w => if z < 126 then (if y < 126 then loCode C n w z y else 33) else 33) (fun n y w => hiCode C n w z y) v a
    = share B (32 * a + v) z 2 := by
  unfold tally
  by_cases hz : z < 126
  · simp only [if_pos hz, marked C hC v a hv, e hz]
    refine Eq.trans ?_ (if_pos hz).symm
    refine Finset.sum_congr rfl fun n _ => ?_
    exact sum_range_drop2 _ (fun y => ∑ w ∈ Finset.range 128, if code B n w z y = 32 * a + v then 1 else 0)
      (fun y hy => Finset.sum_congr rfl fun w _ => if_pos hy)
      (Finset.sum_eq_zero fun w _ => if_neg (by omega)) (Finset.sum_eq_zero fun w _ => if_neg (by omega))
  · simp only [if_neg hz]
    refine Eq.trans ?_ (if_neg hz).symm
    exact Finset.sum_eq_zero fun n _ => Finset.sum_eq_zero fun y _ => Finset.sum_eq_zero fun w _ => if_neg fun h => by omega

end

end Cert.Pat

end
-- ==== Proof.Tables.lean ====
/-
  The kernel's tables: after the 128 trips each holds the differences of the two arrays' counts, and the stored number
  is the loss.
-/
module

public import proofs.«01_k».proof.Proof.KRun
public import proofs.«01_k».proof.Proof.Share

@[expose] public section

set_option maxRecDepth 16384

noncomputable section

namespace Cert.Pat

open Idealize.ShloMosaic Idealize.ShloMosaic.TcCoe Cert.KernelIdeal Cert.KernelIdeal.Gen

/-- The offsets of a trip's own slab. -/
theorem off1_at (k : Fin k0_t1_loop.trips) : k0_off1 k = ![0, k.val, 0, 0] := by
  revert k; decide +kernel

/-- The offsets of the slab one further on, stopped at the last. -/
theorem off2_at1 (k : Fin k0_t1_loop.trips) : k0_off2 k 1#32 = ![0, min (k.val + 1) 127, 0, 0] := by
  revert k; decide +kernel

/-- The offsets of the slab two further on, stopped at the last. -/
theorem off2_at2 (k : Fin k0_t1_loop.trips) : k0_off2 k 2#32 = ![0, min (k.val + 2) 127, 0, 0] := by
  revert k; decide +kernel

variable (x : Arr) (k : Fin k0_t1_loop.trips)

/-- There are 128 trips. -/
theorem trip_lt : k.val < 128 := k.isLt

/-- A trip's own slab holds its bits. -/
theorem is_slab0 : Is (slab0 x k) (fun n y w => bit x n k.val y w) := is_slab x _ _ _ (off1_at k) (trip_lt k)
/-- The slab one further on holds its bits. -/
theorem is_slab1 : Is (slab1 x k) (fun n y w => bit x n (min (k.val + 1) 127) y w) := is_slab x _ _ _ (off2_at1 k) (by omega)
/-- The slab two further on holds its bits. -/
theorem is_slab2 : Is (slab2 x k) (fun n y w => bit x n (min (k.val + 2) 127) y w) := is_slab x _ _ _ (off2_at2 k) (by omega)

/-- The bits with the first axis stopped at its end, as the trips read them. -/
def stop (x : Arr) : Fin 3 → Fin 2 → ℕ → ℕ → ℕ → ℕ
  | 0 => fun n c i j => bit x n (min c 127) i j
  | 1 => fun n c i j => bit x n (min i 127) c j
  | 2 => fun n c i j => bit x n (min i 127) j c

/-- The entries are bits. -/
theorem stop_le (d : Fin 3) (n : Fin 2) (c i j : ℕ) : stop x d n c i j ≤ 1 := by
  match d with
  | 0 => exact bit_le ..
  | 1 => exact bit_le ..
  | 2 => exact bit_le ..

/-- Before the last two trips nothing is stopped, second direction. -/
theorem stop_code1 (z : ℕ) (hz : z < 126) (n : Fin 2) (c j : ℕ) : code (stop x 1) n c z j = code (dir x 1) n c z j := by
  simp only [code, hiCode, loCode, stop, dir, show min z 127 = z by omega, show min (z + 1) 127 = z + 1 by omega,
    show min (z + 2) 127 = z + 2 by omega]

/-- Before the last two trips nothing is stopped, third direction. -/
theorem stop_code2 (z : ℕ) (hz : z < 126) (n : Fin 2) (c j : ℕ) : code (stop x 2) n c z j = code (dir x 2) n c z j := by
  simp only [code, hiCode, loCode, stop, dir, show min z 127 = z by omega, show min (z + 1) 127 = z + 1 by omega,
    show min (z + 2) 127 = z + 2 by omega]

section Codes

variable {Z0 Z1 Z2 : Fld Ideal} {n0 n1 n2 : ℕ}
  (h0 : Is Z0 (fun n y w => bit x n n0 y w)) (h1 : Is Z1 (fun n y w => bit x n n1 y w)) (h2 : Is Z2 (fun n y w => bit x n n2 y w))

include h0 in
/-- High bits inside one slab. -/
theorem is_hiXY : Is (hiXY Z0) (fun n y w => hiCode (dir x 0) n n0 y w) :=
  is_hi4 h0 (is_x1 h0 fun _ _ _ => bit_mod_w ..) (is_x2 h0 fun _ _ _ => bit_mod_w ..) (is_y1 h0 fun _ _ _ => bit_mod_y ..)

include h0 in
/-- Low bits inside one slab. -/
theorem is_loXY : Is (loXY Z0) (fun n y w => loCode (dir x 0) n n0 y w) :=
  have r1 := is_y1 h0 fun _ _ _ => bit_mod_y ..
  have r2 := is_y2 h0 fun _ _ _ => bit_mod_y ..
  is_lo5 (is_x1 r1 fun _ _ _ => bit_mod_w ..) (is_x2 r1 fun _ _ _ => bit_mod_w ..) r2
    (is_x1 r2 fun _ _ _ => bit_mod_w ..) (is_x2 r2 fun _ _ _ => bit_mod_w ..)

include h0 h1 in
/-- High bits across slabs and along the last axis. -/
theorem is_hiYZ : Is (hiYZ Z0 Z1) (fun n y w => 8 * bit x n n0 y w + 4 * bit x n n0 y (w + 1) + 2 * bit x n n0 y (w + 2) + bit x n n1 y w) :=
  is_hi4 h0 (is_x1 h0 fun _ _ _ => bit_mod_w ..) (is_x2 h0 fun _ _ _ => bit_mod_w ..) h1

include h1 h2 in
/-- Low bits across slabs and along the last axis. -/
theorem is_loYZ : Is (loYZ Z1 Z2) (fun n y w => 16 * bit x n n1 y (w + 1) + 8 * bit x n n1 y (w + 2) + 4 * bit x n n2 y w
    + 2 * bit x n n2 y (w + 1) + bit x n n2 y (w + 2)) :=
  is_lo5 (is_x1 h1 fun _ _ _ => bit_mod_w ..) (is_x2 h1 fun _ _ _ => bit_mod_w ..) h2
    (is_x1 h2 fun _ _ _ => bit_mod_w ..) (is_x2 h2 fun _ _ _ => bit_mod_w ..)

include h0 h1 in
/-- High bits across slabs and along the middle axis. -/
theorem is_hiZX : Is (hiZX Z0 Z1) (fun n y w => 8 * bit x n n0 y w + 4 * bit x n n0 (y + 1) w + 2 * bit x n n0 (y + 2) w + bit x n n1 y w) :=
  is_hi4 h0 (is_y1 h0 fun _ _ _ => bit_mod_y ..) (is_y2 h0 fun _ _ _ => bit_mod_y ..) h1

include h1 h2 in
/-- Low bits across slabs and along the middle axis. -/
theorem is_loZX : Is (loZX Z1 Z2) (fun n y w => 16 * bit x n n1 (y + 1) w + 8 * bit x n n1 (y + 2) w + 4 * bit x n n2 y w
    + 2 * bit x n n2 (y + 1) w + bit x n n2 (y + 2) w) :=
  is_lo5 (is_y1 h1 fun _ _ _ => bit_mod_y ..) (is_y2 h1 fun _ _ _ => bit_mod_y ..) h2
    (is_y1 h2 fun _ _ _ => bit_mod_y ..) (is_y2 h2 fun _ _ _ => bit_mod_y ..)

end Codes

/-- The reals of a table may be written otherwise, inside the table. -/
theorem IsT.congr {T : FVec Ideal S32x16 .f32} {G H : ℕ → ℕ → ℝ} (h : IsT T G)
    (e : ∀ i j, i < 32 → G i j = H i j) : IsT T H :=
  fun i j => (h i j).trans (by rw [e i.val j.val i.isLt])

section Count

variable {T : FVec Ideal S32x16 .f32} {G : ℕ → ℕ → ℝ} (hT : IsT T G) (sgn : EReal) (s : ℝ) (hs : sgn = (s : EReal))
include hT hs

/-- One array's windows of trip `k` counted into the first table. -/
theorem count0 : IsT (accum k0_pay53 k0_pay54 (Ideal.ofBits .bf16 0x3F80#16) (Ideal.ofBits .bf16 0x0000#16) sgn T
      (keep k0_pay55 k0_pay58 (loXY (slab0 x k))) (hiXY (slab0 x k)))
    (fun i j => G i j + s * (share (dir x 0) (32 * j + i) k.val 0 : ℝ)) :=
  (is_accum hT (is_keepXY (is_loXY x (is_slab0 x k))) (is_hiXY x (is_slab0 x k)) _ _ _ s c_bf16_1 c_bf16_0 hs).congr
    fun i j hi => by rw [tallyXY (dir x 0) (dir_le x 0) k.val i j hi]

/-- The same for the second table. -/
theorem count1 : IsT (accum k0_pay53 k0_pay54 (Ideal.ofBits .bf16 0x3F80#16) (Ideal.ofBits .bf16 0x0000#16) sgn T
      (keepZ 0#32 k (keep k0_pay56 k0_pay59 (loYZ (slab1 x k) (slab2 x k)))) (hiYZ (slab0 x k) (slab1 x k)))
    (fun i j => G i j + s * (share (dir x 1) (32 * j + i) k.val 1 : ℝ)) := by
  have hk : min k.val 127 = k.val := by have := trip_lt k; omega
  refine (is_accum hT (is_keepZ (is_keepX ((is_loYZ x (is_slab1 x k) (is_slab2 x k)).congr (g := fun n y w => loCode (stop x 1) n y k.val w) ?_)) k)
    ((is_hiYZ x (is_slab0 x k) (is_slab1 x k)).congr (g := fun n y w => hiCode (stop x 1) n y k.val w) ?_) _ _ _ s c_bf16_1 c_bf16_0 hs).congr
    fun i j hi => by rw [tallyYZ (dir x 1) (dir_le x 1) k.val i j hi (stop x 1) (stop_le x 1) (stop_code1 x k.val)]
  · exact fun n y w _ _ => rfl
  · intro n y w _ _
    simp only [hiCode, stop, hk]

/-- The same for the third table. -/
theorem count2 : IsT (accum k0_pay53 k0_pay54 (Ideal.ofBits .bf16 0x3F80#16) (Ideal.ofBits .bf16 0x0000#16) sgn T
      (keepZ 0#32 k (keep k0_pay57 k0_pay60 (loZX (slab1 x k) (slab2 x k)))) (hiZX (slab0 x k) (slab1 x k)))
    (fun i j => G i j + s * (share (dir x 2) (32 * j + i) k.val 2 : ℝ)) := by
  have hk : min k.val 127 = k.val := by have := trip_lt k; omega
  refine (is_accum hT (is_keepZ (is_keepY ((is_loZX x (is_slab1 x k) (is_slab2 x k)).congr (g := fun n y w => loCode (stop x 2) n w k.val y) ?_)) k)
    ((is_hiZX x (is_slab0 x k) (is_slab1 x k)).congr (g := fun n y w => hiCode (stop x 2) n w k.val y) ?_) _ _ _ s c_bf16_1 c_bf16_0 hs).congr
    fun i j hi => by rw [tallyZX (dir x 2) (dir_le x 2) k.val i j hi (stop x 2) (stop_le x 2) (stop_code2 x k.val)]
  · exact fun n y w _ _ => rfl
  · intro n y w _ _
    simp only [hiCode, stop, hk]

end Count

variable (y : Arr)

/-- The difference of the two arrays' counts over the trips before `n`. -/
def part (x y : Arr) (d : Fin 3) (n i j : ℕ) : ℝ :=
  ∑ z ∈ Finset.range n, ((share (dir x d) (32 * j + i) z d : ℝ) - (share (dir y d) (32 * j + i) z d : ℝ))

/-- One trip more. -/
theorem part_succ (d : Fin 3) (n i j : ℕ) : part x y d (n + 1) i j
    = part x y d n i j + 1 * (share (dir x d) (32 * j + i) n d : ℝ) + (-1) * (share (dir y d) (32 * j + i) n d : ℝ) := by
  unfold part; rw [Finset.sum_range_succ]; ring

/-- Before trip `n` the three tables hold the differences over the trips so far. -/
theorem tabs_are : ∀ n : ℕ, n ≤ 128 →
    IsT (tabs (F := Ideal) x y n).1 (part x y 0 n) ∧ IsT (tabs (F := Ideal) x y n).2.1 (part x y 1 n) ∧ IsT (tabs (F := Ideal) x y n).2.2 (part x y 2 n)
  | 0, _ => by
    have h : ∀ d, IsT (k0_pay61 (F := Ideal)) (part x y d 0) := by
      intro d i j
      pointwise [k0_pay61]
      simp [part]
    exact ⟨h 0, h 1, h 2⟩
  | n + 1, hn => by
    have h : n < k0_t1_loop.trips := hn
    obtain ⟨h0, h1, h2⟩ := tabs_are n (by omega)
    rw [tabs, dif_pos h]
    refine ⟨?_, ?_, ?_⟩
    · exact (count0 y ⟨n, h⟩ (count0 x ⟨n, h⟩ h0 _ 1 c_bf16_1) _ (-1) c_bf16_neg).congr fun i j _ => (part_succ x y 0 n i j).symm
    · exact (count1 y ⟨n, h⟩ (count1 x ⟨n, h⟩ h1 _ 1 c_bf16_1) _ (-1) c_bf16_neg).congr fun i j _ => (part_succ x y 1 n i j).symm
    · exact (count2 y ⟨n, h⟩ (count2 x ⟨n, h⟩ h2 _ 1 c_bf16_1) _ (-1) c_bf16_neg).congr fun i j _ => (part_succ x y 2 n i j).symm

/-- All trips together. -/
theorem part_full (d : Fin 3) (i j : ℕ) : part x y d 128 i j = gap x y d (32 * j + i) := by
  unfold part gap
  rw [Finset.sum_sub_distrib, ← Nat.cast_sum, ← Nat.cast_sum, sum_share, sum_share]

/-- The squares of a table, summed. -/
theorem table_sq {T : FVec Ideal S32x16 .f32} (d : Fin 3) (h : IsT T (part x y d 128)) :
    (∑ i : Fin 32, ∑ j : Fin 16, T (ix2 i j) * T (ix2 i j)) = ((sq x y d : ℝ) : EReal) := by
  simp only [h _ _, part_full, ← EReal.coe_mul, coe_sum]
  unfold sq
  rw [Fin.sum_univ_tiles (N := 512) 16 32 (by norm_num), Finset.sum_comm]
  simp only [Nat.mul_comm 32]

/-- The number the kernel stores is the loss. -/
theorem kout_eq (i j : Fin 1) : kout (F := Ideal) x y (ix2 i j) = ((loss x y : ℝ) : EReal) := by
  obtain ⟨h0, h1, h2⟩ := tabs_are x y 128 le_rfl
  unfold kout
  pointwise [k0_pay3]
  rw [IdealRules.named_const.ideal_named_scalar _ _ _ _ rfl]
  rw [table_sq x y 0 h0, table_sq x y 1 h1, table_sq x y 2 h2, ← EReal.coe_add, ← EReal.coe_add, ← EReal.coe_mul]
  unfold loss
  congr 1
  ring

end Cert.Pat

end
-- ==== Proof.Hist.lean ====
/-
  The reference's histogram: a scatter that adds one at each window's code leaves at each of the 512 places the number
  of windows with that code.
-/
module

public import proofs.«01_k».proof.Proof.Spec
public import proofs.«01_k».proof.Proof.Gen.ReferenceIdeal.Run
public import Idealize.ShloMosaic.Lib.Routing.OpsPair
public import Idealize.ShloMosaic.Lib.WordArith

@[expose] public section

set_option maxRecDepth 16384

noncomputable section

namespace Cert.Pat

open Idealize.ShloMosaic Idealize.ShloMosaic.TcCoe Cert.ReferenceIdeal Cert.ReferenceIdeal.Gen

/-- Adding one for each element of a list that satisfies `P`. -/
theorem fold_ones {ι : Type} (P : ι → Prop) [DecidablePred P] (u : ι → BitVec 32) (hu : ∀ n, u n = 1#32) :
    ∀ (l : List ι) (a : ℕ), l.foldl (fun b n => if P n then IntOp.addi b (u n) else b) (BitVec.ofNat 32 a)
      = BitVec.ofNat 32 (a + (l.map fun n => if P n then 1 else 0).sum)
  | [], a => by simp
  | n :: l, a => by
    rw [List.foldl_cons, List.map_cons, List.sum_cons]
    by_cases h : P n
    · rw [if_pos h, if_pos h, hu, ← Nat.add_assoc, ← fold_ones P u hu l (a + 1)]
      congr 1
      show BitVec.ofNat 32 a + 1#32 = _
      rw [BitVec.ofNat_add]
    · rw [if_neg h, if_neg h, Nat.zero_add, fold_ones P u hu l a]

/-- The scatter that the histogram is. -/
abbrev scat : ScatterDims S512 S4064256x1 S4064256 := scatter_S512_S4064256x1_S4064256_n_0_0_1

/-- An update lands at the place its index word names. -/
theorem lands (idx : IVec S4064256x1 32) (p : Fin 4064256) (e : Fin 512) :
    scat.resultIdx? (ix1 p) idx = some (ix1 e) ↔ (idx (ix2 p (0 : Fin 1))).toInt = (e.val : Int) := by
  refine (Routing.resultIdx?_ix1 (N := 512) scat (ix1 p) idx e).trans ?_
  have hw : scat.window (ix1 p) 0 = 0 := rfl
  have hs : scat.start (ix1 p) idx 0 = (idx (ix2 p (0 : Fin 1))).toInt := by
    unfold ScatterDims.start
    rw [dif_pos (by exact List.mem_singleton.2 rfl)]
    congr 2
    funext b
    match b with
    | ⟨0, _⟩ => rfl
    | ⟨1, _⟩ => rfl
  rw [hw, hs, Nat.cast_zero, add_zero]

/-- The scatter at place `e`, when the index words are the numbers `g`, all small: how often `g` is `e`. -/
theorem scatter_count (x0 : IVec S512 32) (h0 : ∀ e, x0 e = 0#32) (idx : IVec S4064256x1 32) (upd : IVec S4064256 32)
    (hu : ∀ k, upd k = 1#32) (g : S4064256.Idx → ℕ) (hg : ∀ p : Fin 4064256, idx (ix2 p (0 : Fin 1)) = BitVec.ofNat 32 (g (ix1 p)))
    (hs : ∀ k, g k < 512) (e : Fin 512) :
    Host.scatter scat IntOp.addi x0 idx upd (ix1 e) = BitVec.ofNat 32 (∑ k : S4064256.Idx, if g k = e.val then 1 else 0) := by
  rw [Routing.scatter_at, h0]
  have hl : ∀ k : S4064256.Idx, scat.resultIdx? k idx = some (ix1 e) ↔ g k = e.val := by
    intro k
    obtain ⟨p, rfl⟩ : ∃ p : Fin 4064256, k = ix1 p := ⟨k 0, funext fun a => by match a with | ⟨0, _⟩ => rfl⟩
    rw [lands, hg, WordArith.toInt_ofNat_small _ (by have := hs (ix1 p); omega), Nat.cast_inj]
  simp only [hl]
  rw [fold_ones (fun n => g (S4064256.rowMajor.symm n) = e.val) (fun n => upd (S4064256.rowMajor.symm n)) (fun n => hu _) _ 0,
    Nat.zero_add, ← Fin.sum_univ_def, Equiv.sum_comp S4064256.rowMajor.symm fun k => if g k = e.val then 1 else 0]

end Cert.Pat

end
-- ==== Proof.Ref.lean ====
/-
  The reference's result is the loss: the bits, the nine-bit codes as sums of nine shifted products, the histograms,
  their squared difference, and the means.
-/
module

public import proofs.«01_k».proof.Proof.Hist

@[expose] public section

set_option maxRecDepth 16384

noncomputable section

namespace Cert.Pat

open Idealize.ShloMosaic Idealize.ShloMosaic.TcCoe Cert.ReferenceIdeal Cert.ReferenceIdeal.Gen Cert.ReferenceIdeal.Value

section Terms

variable {F : FTy → Type} [FloatOps F]

/-- The window at offset `o`, weighted by the constant `w`. -/
def term (w : BitVec 32) (o : Fin 4 → Nat) (h : S128x2x128x128.Slices o S128x2x126x126) (X : FVec F S128x2x128x128 .f32) :
    FVec F S128x2x126x126 .f32 :=
  mulf (broadcastInDim S128x2x126x126 ![] bcast_S_S128x2x126x126 (constant S_ .f32 w)) (extractStridedSlice S128x2x126x126 o X h)

/-- The sum of the nine weighted windows. -/
def conv (X : FVec F S128x2x128x128 .f32) : FVec F S128x2x126x126 .f32 :=
  addf (addf (addf (addf (addf (addf (addf (addf (addf
    (broadcastInDim S128x2x126x126 ![] bcast_S_S128x2x126x126 (constant S_ .f32 0x00000000#32))
    (term 0x43800000#32 ![0, 0, 0, 0] slices_S128x2x128x128_S128x2x126x126_0_0_0_0 X))
    (term 0x43000000#32 ![0, 0, 0, 1] slices_S128x2x128x128_S128x2x126x126_0_0_0_1 X))
    (term 0x42800000#32 ![0, 0, 0, 2] slices_S128x2x128x128_S128x2x126x126_0_0_0_2 X))
    (term 0x42000000#32 ![0, 0, 1, 0] slices_S128x2x128x128_S128x2x126x126_0_0_1_0 X))
    (term 0x41800000#32 ![0, 0, 1, 1] slices_S128x2x128x128_S128x2x126x126_0_0_1_1 X))
    (term 0x41000000#32 ![0, 0, 1, 2] slices_S128x2x128x128_S128x2x126x126_0_0_1_2 X))
    (term 0x40800000#32 ![0, 0, 2, 0] slices_S128x2x128x128_S128x2x126x126_0_0_2_0 X))
    (term 0x40000000#32 ![0, 0, 2, 1] slices_S128x2x128x128_S128x2x126x126_0_0_2_1 X))
    (term 0x3F800000#32 ![0, 0, 2, 2] slices_S128x2x128x128_S128x2x126x126_0_0_2_2 X)

/-- The codes as words, in one row. -/
def words (X : FVec F S128x2x128x128 .f32) : IVec S4064256 32 :=
  maxsi (broadcastInDim S4064256 ![] bcast_S_S4064256 (id (constantI S_ 32 0#32)))
    (fptosi 32 (shapeCast S4064256 (conv X) shapeCasts_S128x2x126x126_S4064256))

/-- The histogram of a row of words, divided by the number of words. -/
def freq (v : IVec S4064256 32) : FVec F S512 .f32 :=
  Host.divf (sitofp .f32 (Host.scatter scat IntOp.addi (broadcastInDim S512 ![] bcast_S_S512 (constantI S_ 32 0#32))
    (broadcastInDim S4064256x1 ![0] bcast_S4064256_S4064256x1_0
      (select (cmpi .slt v (broadcastInDim S4064256 ![] bcast_S_S4064256 (constantI S_ 32 0#32)))
        (addi v (broadcastInDim S4064256 ![] bcast_S_S4064256 (constantI S_ 32 512#32))) v))
    (broadcastInDim S4064256 ![] bcast_S_S4064256 (constantI S_ 32 1#32))))
    (broadcastInDim S512 ![] bcast_S_S512 (constant S_ .f32 0x4A781000#32))

/-- The mean of the squares of a difference of two histograms, divided by the two batch sizes. -/
def meanSq (r : FVec F S512 .f32) : FVec F S_ .f32 :=
  Host.divf (Host.divf (Host.divf (Host.reduceAdd (mulf r r) (constant S_ .f32 0x00000000#32) reducesTo_S512_S_d0 h_S_)
    (constant S_ .f32 0x44000000#32)) (constant S_ .f32 0x43000000#32)) (constant S_ .f32 0x40000000#32)

variable (V0 : Valuation τ sig (Elt F))

/-- The first difference of frequencies, named. -/
theorem diff0 : res_main_v112 V0 = subf (freq (words (res_main_v6 V0))) (freq (words (res_main_v7 V0))) := rfl
/-- The second difference of frequencies, named. -/
theorem diff1 : res_main_v226 V0 = subf (freq (words (res_main_v120 V0))) (freq (words (res_main_v121 V0))) := rfl
/-- The third difference of frequencies, named. -/
theorem diff2 : res_main_v340 V0 = subf (freq (words (res_main_v234 V0))) (freq (words (res_main_v235 V0))) := rfl

end Terms

/-- The array `X` holds the natural numbers `B`, slices first. -/
def IsB (X : FVec Ideal S128x2x128x128 .f32) (B : Fin 2 → ℕ → ℕ → ℕ → ℕ) : Prop :=
  ∀ (c : Fin 128) (n : Fin 2) (i j : Fin 128), X (ix4 c n i j) = nr (B n c.val i.val j.val)

/-- The code at a place of the array of windows. -/
def codeAt (B : Fin 2 → ℕ → ℕ → ℕ → ℕ) (q : S128x2x126x126.Idx) : ℕ := code B (q 1) (q 0).val (q 2).val (q 3).val

/-- A small number, converted to a word. -/
theorem to_word (k : ℕ) (h : k < 512) : Ideal.fptosi 32 (nr k) = BitVec.ofNat 32 k := by
  unfold Ideal.fptosi
  rw [Ideal.toIntClamped_coe, if_pos (Nat.cast_nonneg k), Int.floor_natCast]
  rw [show max (-((2 ^ (32 - 1) : ℕ) : ℤ)) (min (((2 ^ (32 - 1) : ℕ) : ℤ) - 1) (k : ℤ)) = (k : ℤ) by omega]
  exact BitVec.ofInt_natCast ..

/-- The larger of zero and a small word is the word. -/
theorem max_word : ∀ k : Fin 512, IntOp.maxsi 0#32 (BitVec.ofNat 32 k.val) = BitVec.ofNat 32 k.val := by decide +kernel

/-- The count over the places of the row is the count over the windows. -/
theorem count_eq (B : Fin 2 → ℕ → ℕ → ℕ → ℕ) (e : ℕ) :
    (∑ k : S4064256.Idx, if codeAt B (Shape.reshapeEquiv shapeCasts_S128x2x126x126_S4064256 k) = e then 1 else 0) = cnt B e := by
  rw [sum_reshape shapeCasts_S128x2x126x126_S4064256 fun q => if codeAt B q = e then 1 else 0, sum_idx4]
  unfold cnt cnt1
  simp only [Finset.sum_range]
  rfl

/-- A count is at most the number of windows. -/
theorem cnt_le (B : Fin 2 → ℕ → ℕ → ℕ → ℕ) (e : ℕ) : cnt B e ≤ 4064256 := by
  unfold cnt cnt1
  calc _ ≤ ∑ c ∈ Finset.range 128, ∑ n : Fin 2, ∑ i ∈ Finset.range 126, ∑ j ∈ Finset.range 126, 1 := by
        refine Finset.sum_le_sum fun _ _ => Finset.sum_le_sum fun _ _ => Finset.sum_le_sum fun _ _ => Finset.sum_le_sum fun _ _ => ?_
        split <;> omega
    _ = 4064256 := by simp

section Codes

variable {X : FVec Ideal S128x2x128x128 .f32} {B : Fin 2 → ℕ → ℕ → ℕ → ℕ} (hX : IsB X B) (hB : ∀ n c i j, B n c i j ≤ 1)
include hX

/-- The sum of the nine weighted windows is the code. -/
theorem conv_at (c : Fin 128) (n : Fin 2) (i j : Fin 126) : conv X (ix4 c n i j) = nr (code B n c.val i.val j.val) := by
  pointwise [conv, term]
  rw [hX, hX, hX, hX, hX, hX, hX, hX, hX]
  simp only [c_f32_256, c_f32_128, c_f32_64, c_f32_32, c_f32_16, c_f32_8, c_f32_4, c_f32_2, Nat.add_comm 1, Nat.add_comm 2,
    nr, ← EReal.coe_mul, ← EReal.coe_add]
  unfold code hiCode loCode
  congr 1
  push_cast
  ring

include hB

/-- The words are the codes. -/
theorem words_at (k : S4064256.Idx) :
    words X k = BitVec.ofNat 32 (codeAt B (Shape.reshapeEquiv shapeCasts_S128x2x126x126_S4064256 k)) := by
  show IntOp.maxsi 0#32 (Ideal.fptosi 32 (conv X (Shape.reshapeEquiv shapeCasts_S128x2x126x126_S4064256 k))) = _
  generalize Shape.reshapeEquiv shapeCasts_S128x2x126x126_S4064256 k = q
  obtain ⟨c, n, i, j, rfl⟩ : ∃ (c : Fin 128) (n : Fin 2) (i j : Fin 126), q = ix4 c n i j :=
    ⟨q 0, q 1, q 2, q 3, funext fun a => by match a with | ⟨0, _⟩ => rfl | ⟨1, _⟩ => rfl | ⟨2, _⟩ => rfl | ⟨3, _⟩ => rfl⟩
  rw [conv_at hX]
  have h : codeAt B (ix4 c n i j) < 512 := code_lt B hB ..
  show IntOp.maxsi 0#32 (Ideal.fptosi 32 (nr (codeAt B (ix4 c n i j)))) = _
  rw [to_word _ h, max_word ⟨_, h⟩]

/-- The frequency of a code. -/
theorem freq_at (e : Fin 512) : freq (F := Ideal) (words X) (ix1 e) = (((cnt B e.val : ℝ) / 4064256 : ℝ) : EReal) := by
  have h := scatter_count (broadcastInDim S512 ![] bcast_S_S512 (constantI S_ 32 0#32)) (fun _ => rfl)
    (broadcastInDim S4064256x1 ![0] bcast_S4064256_S4064256x1_0
      (select (cmpi .slt (words X) (broadcastInDim S4064256 ![] bcast_S_S4064256 (constantI S_ 32 0#32)))
        (addi (words X) (broadcastInDim S4064256 ![] bcast_S_S4064256 (constantI S_ 32 512#32))) (words X)))
    (broadcastInDim S4064256 ![] bcast_S_S4064256 (constantI S_ 32 1#32)) (fun _ => rfl)
    (fun k => codeAt B (Shape.reshapeEquiv shapeCasts_S128x2x126x126_S4064256 k)) (fun p => ?_) (fun k => code_lt B hB ..) e
  · rw [count_eq] at h
    unfold freq
    show Ideal.div (FloatOps.sitofp (F := Ideal) .f32 (Host.scatter scat IntOp.addi _ _ _ (ix1 e))) (Ideal.ofBits .f32 0x4A781000#32) = _
    rw [h, word_nr _ (by have := cnt_le B e.val; omega), c_f32_windows, Ideal.div_coe (by norm_num), ← EReal.coe_mul, mul_one_div]
  · have hp : (broadcastInDim S4064256x1 ![0] bcast_S4064256_S4064256x1_0
        (select (cmpi .slt (words X) (broadcastInDim S4064256 ![] bcast_S_S4064256 (constantI S_ 32 0#32)))
          (addi (words X) (broadcastInDim S4064256 ![] bcast_S_S4064256 (constantI S_ 32 512#32))) (words X))) (ix2 p (0 : Fin 1))
        = Scalar.select (IntOp.cmpi .slt (words X (ix1 p)) 0#32) (IntOp.addi (words X (ix1 p)) 512#32) (words X (ix1 p)) := by
      generalize words X = v
      pointwise
    rw [hp, words_at hX hB]
    refine Routing.wrap_of_lt _ _ ?_
    rw [BitVec.toNat_ofNat]
    have hc : codeAt B (Shape.reshapeEquiv shapeCasts_S128x2x126x126_S4064256 (ix1 p)) < 512 := code_lt B hB ..
    omega

end Codes

/-! ## The bits -/

/-- The thresholded array. -/
def hits (x : Arr) : FVec Ideal S2x128x128x128 .f32 :=
  uitofp .f32 (cmpf (F := Ideal) .oge x (broadcastInDim S2x128x128x128 ![] bcast_S_S2x128x128x128 (constant S_ .f32 0x3B808081#32)))

/-- The thresholded array holds the bits. -/
theorem hits_at (x : Arr) (n : Fin 2) (z y w : Fin 128) : hits x (ix4 n z y w) = nr (bit x n z.val y.val w.val) := by
  have e : ix4 n ⟨z.val % 128, Nat.mod_lt _ (by decide)⟩ ⟨y.val % 128, Nat.mod_lt _ (by decide)⟩ ⟨w.val % 128, Nat.mod_lt _ (by decide)⟩
      = ix4 n z y w :=
    (ix4_inj ..).2 ⟨rfl, Fin.ext (Nat.mod_eq_of_lt z.isLt), Fin.ext (Nat.mod_eq_of_lt y.isLt), Fin.ext (Nat.mod_eq_of_lt w.isLt)⟩
  unfold bit
  rw [e]
  pointwise [hits]
  by_cases hc : thr ≤ x (ix4 n z y w)
  · rw [if_pos hc, decide_eq_true hc]; rfl
  · rw [if_neg hc, decide_eq_false hc]; rfl

/-- Its first transpose holds the slices along the first axis. -/
theorem slices0 (x : Arr) : IsB (transpose S128x2x128x128 [1, 0, 2, 3] (hits x) transposes_S2x128x128x128_S128x2x128x128_1_0_2_3)
    (dir x 0) := by
  intro c n i j
  refine Eq.trans ?_ (hits_at x n c i j)
  pointwise

/-- Its second transpose holds the slices along the middle axis. -/
theorem slices1 (x : Arr) : IsB (transpose S128x2x128x128 [1, 0, 2, 3]
    (transpose S2x128x128x128 [0, 2, 1, 3] (hits x) transposes_S2x128x128x128_S2x128x128x128_0_2_1_3)
      transposes_S2x128x128x128_S128x2x128x128_1_0_2_3) (dir x 1) := by
  intro c n i j
  refine Eq.trans ?_ (hits_at x n i c j)
  pointwise

/-- Its third transpose holds the slices along the last axis. -/
theorem slices2 (x : Arr) : IsB (transpose S128x2x128x128 [1, 0, 2, 3]
    (transpose S2x128x128x128 [0, 3, 1, 2] (hits x) transposes_S2x128x128x128_S2x128x128x128_0_3_1_2)
      transposes_S2x128x128x128_S128x2x128x128_1_0_2_3) (dir x 2) := by
  intro c n i j
  refine Eq.trans ?_ (hits_at x n i j c)
  pointwise

/-- The mean of one direction. -/
theorem meanSq_at (x y : Arr) (d : Fin 3) (X Y : FVec Ideal S128x2x128x128 .f32) (hX : IsB X (dir x d)) (hY : IsB Y (dir y d))
    (j : S_.Idx) : meanSq (F := Ideal) (subf (freq (words X)) (freq (words Y))) j
      = ((sq x y d / (4064256 * 4064256) / 512 / 128 / 2 : ℝ) : EReal) := by
  have e : ∀ k : Fin 512, (subf (freq (words X)) (freq (words Y)) : FVec Ideal S512 .f32) (ix1 k)
      = ((gap x y d k.val / 4064256 : ℝ) : EReal) := by
    intro k
    show (freq (F := Ideal) (words X) (ix1 k) - freq (F := Ideal) (words Y) (ix1 k) : EReal) = _
    rw [freq_at hX (dir_le x d), freq_at hY (dir_le y d), ← EReal.coe_sub]
    unfold gap
    rw [sub_div]
  generalize (subf (freq (words X)) (freq (words Y)) : FVec Ideal S512 .f32) = r at e
  unfold meanSq
  obtain rfl : j = ix0 := Subsingleton.elim _ _
  pointwise
  simp only [e, ← EReal.coe_mul, coe_sum]
  rw [c_f32_512, c_f32_128, c_f32_2, Ideal.div_coe (by norm_num), Ideal.div_coe (by norm_num), Ideal.div_coe (by norm_num),
    ← EReal.coe_mul, ← EReal.coe_mul, ← EReal.coe_mul]
  unfold sq
  congr 1
  rw [Finset.sum_congr rfl fun k _ => div_mul_div_comm (gap x y d (k : Fin 512).val) 4064256 (gap x y d k.val) 4064256, ← Finset.sum_div]
  ring

/-- The reference's result is the loss. -/
theorem ref_eq (V0 : Valuation τ sig (Elt Ideal)) (j : S_.Idx) :
    Host.divf (addf (addf (meanSq (res_main_v112 V0)) (meanSq (res_main_v226 V0))) (meanSq (res_main_v340 V0)))
        (constant (F := Ideal) S_ .f32 0x40400000#32) j
      = ((loss (V0 (Proc.devRef .tc main_arg0)) (V0 (Proc.devRef .tc main_arg1)) : ℝ) : EReal) := by
  show Ideal.div (meanSq (F := Ideal) (res_main_v112 V0) j + meanSq (res_main_v226 V0) j + meanSq (res_main_v340 V0) j : EReal)
    (Ideal.ofBits .f32 0x40400000#32) = _
  let x : Arr := V0 (Proc.devRef .tc main_arg0)
  let y : Arr := V0 (Proc.devRef .tc main_arg1)
  rw [diff0, diff1, diff2, meanSq_at x y 0 (res_main_v6 V0) (res_main_v7 V0) (slices0 x) (slices0 y),
    meanSq_at x y 1 (res_main_v120 V0) (res_main_v121 V0) (slices1 x) (slices1 y),
    meanSq_at x y 2 (res_main_v234 V0) (res_main_v235 V0) (slices2 x) (slices2 y), c_f32_3, ← EReal.coe_add, ← EReal.coe_add, Ideal.div_coe (by norm_num), ← EReal.coe_mul]
  unfold loss
  congr 1
  ring

end Cert.Pat

end
-- ==== Proof.lean ====
/-
  The five claims: the kernel, its idealization and the reference each run to the end and leave their arguments and
  the semaphores as they were; the idealization replaces one constant by the number it stands for; and over the extended
  reals kernel and reference leave the same number, `Cert.Pat.loss` of the two arguments.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Tables
public import proofs.«01_k».proof.Proof.Ref
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

instance hKernel : Cert.Kernel.Facts := Cert.Kernel.Gen.facts
instance hKernelIdeal : Cert.KernelIdeal.Facts := Cert.KernelIdeal.Gen.facts
instance hReferenceIdeal : Cert.ReferenceIdeal.Facts := Cert.ReferenceIdeal.Gen.facts

/-- The kernel's run. -/
theorem kernel_frame : Cert.quiescent_Kernel := fun m ρ _ => Cert.Kernel.Gen.frame m ρ

/-- The idealized kernel's run. -/
theorem ideal_frame : Cert.quiescent_KernelIdeal := fun m ρ _ => Cert.KernelIdeal.Gen.frame m ρ

/-- The reference's run: it has no semaphores. -/
theorem reference_frame : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The named constant is the kernel's constant to single precision. -/
theorem scale_kept : Cert.preserves_Kernel_KernelIdeal :=
  IdealRules.named_const.statement Cert.KernelIdeal.κ "scale" .f32 0x2035C36D#32 ((1 / 6495211421775691776 : ℝ) : EReal) rfl

/-- A scalar cast from the kernel's one-by-one array of the loss is the loss. -/
theorem scalar_eq (x y : Cert.Pat.Arr) :
    shapeCast Cert.KernelIdeal.S_ (Cert.Pat.kout (F := Ideal) x y) Cert.KernelIdeal.Gen.shapeCasts_S1x1_S_
      = fun _ => ((Cert.Pat.loss x y : ℝ) : EReal) := by
  funext j
  show Cert.Pat.kout (F := Ideal) x y (Shape.reshapeEquiv Cert.KernelIdeal.Gen.shapeCasts_S1x1_S_ j) = _
  generalize Shape.reshapeEquiv Cert.KernelIdeal.Gen.shapeCasts_S1x1_S_ j = q
  obtain ⟨a, b, rfl⟩ : ∃ a b : Fin 1, q = ix2 a b :=
    ⟨q 0, q 1, funext fun a => by match a with | ⟨0, _⟩ => rfl | ⟨1, _⟩ => rfl⟩
  exact Cert.Pat.kout_eq x y a b

/-- Kernel and reference leave the same number. -/
theorem same_loss : Cert.algebraic_KernelIdeal_ReferenceIdeal := by
  intro m g m' g' _ hm
  refine ⟨fun c => fun _ => ((Cert.Pat.loss (m ((c : Thread Cert.KernelIdeal.nD Cert.KernelIdeal.τ).loc Cert.KernelIdeal.main_arg0))
      (m ((c : Thread Cert.KernelIdeal.nD Cert.KernelIdeal.τ).loc Cert.KernelIdeal.main_arg1)) : ℝ) : EReal), ?_, ?_⟩
  · exact (θ_run Cert.KernelIdeal.defs _ _).mono (fun r h c => ⟨((h c).1).trans (scalar_eq _ _), (h c).2⟩)
      (Cert.Pat.krun (F := Ideal) m g)
  · refine (θ_run Cert.ReferenceIdeal.defs _ _).mono (fun r h c => ⟨((h c).1).trans ?_, (h c).2⟩)
      (Cert.ReferenceIdeal.Value.run (F := Ideal) m' g')
    refine (funext fun j => Cert.Pat.ref_eq (StableHlo.launchContents m' c) j).trans ?_
    have e := congrArg₂ Cert.Pat.loss (hm c).1 (hm c).2
    exact funext fun _ => congrArg (fun r : ℝ => (r : EReal)) e

/-- Everything the certificate claims. -/
theorem claim : Cert.Claim :=
  ⟨hKernel, hKernelIdeal, hReferenceIdeal, kernel_frame, ideal_frame, reference_frame, scale_kept, same_loss⟩

end Cert.Proof

end
